-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_below_infinity [hPre_below_infinity : Cert.Pre_below_infinity.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_below_infinity.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_below_infinity [hPre_below_infinity : Cert.Pre_below_infinity.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_below_infinity.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_below_infinity [hKernel4Ideal : Cert.Kernel4Ideal.Facts] [hPre_below_infinity : Cert.Pre_below_infinity.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_below_infinity m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_below_infinity [hReference4Ideal : Cert.Reference4Ideal.Facts] [hPre_below_infinity : Cert.Pre_below_infinity.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_below_infinity m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  True

def algebraic_KernelIdeal_ReferenceIdeal_on_prompt_rows [hKernelIdeal : Cert.KernelIdeal.Facts] [hReferenceIdeal : Cert.ReferenceIdeal.Facts] [hOn_prompt_rows : Cert.On_prompt_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![12288, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v3_0) i = v0 c i)
          ∧ (∀ i : (⟨2, ![12288, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v3_1) i = v1 c i)
          ∧ (∀ i : (⟨5, ![16, 2, 4, 128, 128]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v3_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![12288, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v86) i = v0 c i)
          ∧ (∀ i : (⟨2, ![12288, 512]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v88) i = v1 c i)
          ∧ (∀ i : (⟨5, ![16, 2, 4, 128, 128]⟩ : Shape).Idx, (Cert.On_prompt_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v79) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v127) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_pre_below_infinity [hKernel4Ideal : Cert.Kernel4Ideal.Facts] [hReference4Ideal : Cert.Reference4Ideal.Facts] [hPre_below_infinity : Cert.Pre_below_infinity.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_below_infinity m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_below_infinity : Cert.Pre_below_infinity.Facts) (hOn_prompt_rows : Cert.On_prompt_rows.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_below_infinity (hKernel4Ideal := hKernel4Ideal) (hPre_below_infinity := hPre_below_infinity)
    ∧ quiescent_Reference4Ideal (hReference4Ideal := hReference4Ideal)
    ∧ quiescent_Reference4Ideal_pre_below_infinity (hReference4Ideal := hReference4Ideal) (hPre_below_infinity := hPre_below_infinity)
    ∧ preserves_Kernel_KernelIdeal
    ∧ algebraic_KernelIdeal_ReferenceIdeal_on_prompt_rows (hKernelIdeal := hKernelIdeal) (hReferenceIdeal := hReferenceIdeal) (hOn_prompt_rows := hOn_prompt_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_below_infinity (hKernel4Ideal := hKernel4Ideal) (hReference4Ideal := hReference4Ideal) (hPre_below_infinity := hPre_below_infinity)
-- ==== On_prompt_rows.lean ====
abbrev S12288x512 : Shape := ⟨2, ![12288, 512]⟩
abbrev S12288x9856 : Shape := ⟨2, ![12288, 9856]⟩
abbrev S2x4 : Shape := ⟨2, ![2, 4]⟩
abbrev S_ : Shape := ⟨0, ![]⟩
abbrev S16x2x4x128x128 : Shape := ⟨5, ![16, 2, 4, 128, 128]⟩

class Facts : Prop where
  bcast_S_S12288x512 : S_.BroadcastsInDim S12288x512 (![] : Fin 0 → Fin S12288x512.rank)
  bcast_S_S16x2x4x128x128 : S_.BroadcastsInDim S16x2x4x128x128 (![] : Fin 0 → Fin S16x2x4x128x128.rank)

variable [Facts]

def fn {F : FTy → Type} [FloatOps F] (main_arg0 : FVec F S12288x512 .f32) (main_arg1 : FVec F S12288x512 .f32) (main_arg2 : FVec F S12288x9856 .f32) (main_arg3 : FVec F S2x4 .f32) : IVec S12288x512 1 × IVec S12288x512 1 × IVec S16x2x4x128x128 1 :=
  let main_v0 : IVec S12288x512 32 := iotaInDim S12288x512 32 0
  let main_c : IVec S_ 32 := constantI S_ 32 4096#32
  let main_v1 : IVec S12288x512 32 := broadcastInDim S12288x512 ![] bcast_S_S12288x512 main_c
  let main_v2 : IVec S12288x512 1 := cmpi .slt main_v0 main_v1
  let main_c_0 : IVec S_ 1 := constantI S_ 1 1#1
  let main_v3 : IVec S16x2x4x128x128 1 := broadcastInDim S16x2x4x128x128 ![] bcast_S_S16x2x4x128x128 main_c_0
  (main_v2, main_v2, main_v3)
-- ==== Pre_below_infinity.lean ====
abbrev S12288x512 : Shape := ⟨2, ![12288, 512]⟩
abbrev S2x12288x512 : Shape := ⟨3, ![2, 12288, 512]⟩
abbrev S12288x9856 : Shape := ⟨2, ![12288, 9856]⟩
abbrev S_ : Shape := ⟨0, ![]⟩

class Facts : Prop where
  bcast_S_S2x12288x512 : S_.BroadcastsInDim S2x12288x512 (![] : Fin 0 → Fin S2x12288x512.rank)

variable [Facts]

def fn {F : FTy → Type} [FloatOps F] (main_arg0 : FVec F S12288x512 .f32) (main_arg1 : FVec F S2x12288x512 .f32) (main_arg2 : FVec F S2x12288x512 .f32) (main_arg3 : FVec F S12288x9856 .f32) : IVec S2x12288x512 1 :=
  let main_cst : FVec F S_ .f32 := constant S_ .f32 0x7F800000#32
  let main_v0 : FVec F S2x12288x512 .f32 := broadcastInDim S2x12288x512 ![] bcast_S_S2x12288x512 main_cst
  let main_v1 : IVec S2x12288x512 1 := cmpf .olt main_arg2 main_v0
  main_v1
-- ==== Kernel.lean ====
abbrev S12288x512 : Shape := ⟨2, ![12288, 512]⟩
abbrev S12288x9856 : Shape := ⟨2, ![12288, 9856]⟩
abbrev S2x4 : Shape := ⟨2, ![2, 4]⟩
abbrev S_ : Shape := ⟨0, ![]⟩
abbrev S16x2x4x128x128 : Shape := ⟨5, ![16, 2, 4, 128, 128]⟩
abbrev S64x512 : Shape := ⟨2, ![64, 512]⟩
abbrev S1x2x4x128x128 : Shape := ⟨5, ![1, 2, 4, 128, 128]⟩
abbrev S2x4x128x128 : Shape := ⟨4, ![2, 4, 128, 128]⟩
abbrev S64x1 : Shape := ⟨2, ![64, 1]⟩
abbrev S64x64 : Shape := ⟨2, ![64, 64]⟩
abbrev S1x1 : Shape := ⟨2, ![1, 1]⟩
abbrev S64x128 : Shape := ⟨2, ![64, 128]⟩
abbrev S1x1x128x128 : Shape := ⟨4, ![1, 1, 128, 128]⟩
abbrev S128x128 : Shape := ⟨2, ![128, 128]⟩

abbrev nBuf : Space → Nat
  | .hbm => 11
  | .vmem => 21
  | .smem => 1
  | _ => 0

abbrev bufTy : (tb : Table) → Fin (tcTables nBuf tb) → BufTy
  | .hbm, ⟨0, _⟩ => ⟨S12288x512, .f32⟩
  | .hbm, ⟨1, _⟩ => ⟨S12288x512, .f32⟩
  | .hbm, ⟨2, _⟩ => ⟨S12288x9856, .f32⟩
  | .hbm, ⟨3, _⟩ => ⟨S2x4, .f32⟩
  | .hbm, ⟨4, _⟩ => ⟨S_, .f32⟩
  | .hbm, ⟨5, _⟩ => ⟨S16x2x4x128x128, .f32⟩
  | .hbm, ⟨6, _⟩ => ⟨S2x4, .f32⟩
  | .hbm, ⟨7, _⟩ => ⟨S2x4, .f32⟩
  | .hbm, ⟨8, _⟩ => ⟨S12288x512, .f32⟩
  | .hbm, ⟨9, _⟩ => ⟨S12288x512, .f32⟩
  | .hbm, ⟨10, _⟩ => ⟨S16x2x4x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S1x2x4x128x128, .f32⟩
  | .local _ .vmem, ⟨13, _⟩ => ⟨S1x2x4x128x128, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S64x512, .f32⟩
  | .local _ .vmem, ⟨18, _⟩ => ⟨S1x2x4x128x128, .f32⟩
  | .local _ .vmem, ⟨19, _⟩ => ⟨S1x2x4x128x128, .f32⟩
  | .local _ .vmem, ⟨20, _⟩ => ⟨S2x4x128x128, .f32⟩
  | .local _ .smem, ⟨0, _⟩ => ⟨S2x4, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v476 : BitVec 1 := Scalar.cmpi .eq arg1 c3_i32
  let v477 : BitVec 32 := Scalar.extui v476
  let c0_i32_220 : BitVec 32 := 0#32
  let v478 : BitVec 1 := Scalar.cmpi .ne v477 c0_i32_220
  v478

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c12_i32 : BitVec 32 := 12#32
  let c0_i32_0 : BitVec 32 := 0#32
  ![v2.toNat, c12_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c0_i32_1 : BitVec 32 := 0#32
  let c0_i32_2 : BitVec 32 := 0#32
  ![v4.toNat, c0_i32_1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c0_i32_1 : BitVec 32 := 0#32
  let c0_i32_2 : BitVec 32 := 0#32
  ![v4.toNat, c0_i32_1.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c12_i32 : BitVec 32 := 12#32
  let c0_i32_1 : BitVec 32 := 0#32
  ![v4.toNat, c12_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c0_i32_1 : BitVec 32 := 0#32
  let c0_i32_2 : BitVec 32 := 0#32
  ![v4.toNat, c0_i32_1.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S12288x512 : Shape := ⟨2, ![12288, 512]⟩
abbrev S12288x9856 : Shape := ⟨2, ![12288, 9856]⟩
abbrev S2x4 : Shape := ⟨2, ![2, 4]⟩
abbrev S4096x512 : Shape := ⟨2, ![4096, 512]⟩
abbrev S16x256x4x128 : Shape := ⟨4, ![16, 256, 4, 128]⟩
abbrev S_ : Shape := ⟨0, ![]⟩
abbrev S16x2x4x128x128 : Shape := ⟨5, ![16, 2, 4, 128, 128]⟩
abbrev S1x16x256x4x128 : Shape := ⟨5, ![1, 16, 256, 4, 128]⟩
abbrev S2x16x256x4x128 : Shape := ⟨5, ![2, 16, 256, 4, 128]⟩
abbrev S2x16x4x64x4x128 : Shape := ⟨6, ![2, 16, 4, 64, 4, 128]⟩
abbrev S2x4x16x64x4x128 : Shape := ⟨6, ![2, 4, 16, 64, 4, 128]⟩
abbrev S2x4x16x4x64x128 : Shape := ⟨6, ![2, 4, 16, 4, 64, 128]⟩
abbrev S64 : Shape := ⟨1, ![64]⟩
abbrev S2x4x1 : Shape := ⟨3, ![2, 4, 1]⟩
abbrev S64x1 : Shape := ⟨2, ![64, 1]⟩
abbrev S1x64 : Shape := ⟨2, ![1, 64]⟩
abbrev S64x64 : Shape := ⟨2, ![64, 64]⟩
abbrev S2x4x1x1 : Shape := ⟨4, ![2, 4, 1, 1]⟩
abbrev S1x64x64 : Shape := ⟨3, ![1, 64, 64]⟩
abbrev S1x1x64x64 : Shape := ⟨4, ![1, 1, 64, 64]⟩
abbrev S2x4x64x64 : Shape := ⟨4, ![2, 4, 64, 64]⟩
abbrev S4x64x64 : Shape := ⟨3, ![4, 64, 64]⟩
abbrev S1x1x64 : Shape := ⟨3, ![1, 1, 64]⟩
abbrev S2x4x64 : Shape := ⟨3, ![2, 4, 64]⟩
abbrev S2x1x4x64x1 : Shape := ⟨5, ![2, 1, 4, 64, 1]⟩
abbrev S2x1x4x1x1 : Shape := ⟨5, ![2, 1, 4, 1, 1]⟩
abbrev S2x16x4x128x128 : Shape := ⟨5, ![2, 16, 4, 128, 128]⟩
abbrev S4x2x16x4x64x128 : Shape := ⟨6, ![4, 2, 16, 4, 64, 128]⟩
abbrev S1x2x16x4x64x128 : Shape := ⟨6, ![1, 2, 16, 4, 64, 128]⟩
abbrev S2x16x4x64x128 : Shape := ⟨5, ![2, 16, 4, 64, 128]⟩
abbrev S2x16x4x64x64 : Shape := ⟨5, ![2, 16, 4, 64, 64]⟩
abbrev S2x1x4x64x64 : Shape := ⟨5, ![2, 1, 4, 64, 64]⟩

abbrev nBuf : Space → Nat
  | .hbm => 166
  | .vmem => 0
  | .smem => 0
  | _ => 0

abbrev hbmTy0_0 (i : Nat) : BufTy := match i % 128 with
  | 0 => ⟨S12288x512, .f32⟩
  | 1 => ⟨S12288x512, .f32⟩
  | 2 => ⟨S12288x9856, .f32⟩
  | 3 => ⟨S2x4, .f32⟩
  | 4 => ⟨S4096x512, .f32⟩
  | 5 => ⟨S16x256x4x128, .f32⟩
  | 6 => ⟨S4096x512, .f32⟩
  | 7 => ⟨S16x256x4x128, .f32⟩
  | 8 => ⟨S12288x512, .f32⟩
  | 9 => ⟨S4096x512, .f32⟩
  | 10 => ⟨S16x256x4x128, .f32⟩
  | 11 => ⟨S_, .f32⟩
  | 12 => ⟨S16x2x4x128x128, .f32⟩
  | 13 => ⟨S2x4, .f32⟩
  | 14 => ⟨S2x4, .f32⟩
  | 15 => ⟨S16x256x4x128, .f32⟩
  | 16 => ⟨S1x16x256x4x128, .f32⟩
  | 17 => ⟨S1x16x256x4x128, .f32⟩
  | 18 => ⟨S2x16x256x4x128, .f32⟩
  | 19 => ⟨S16x256x4x128, .f32⟩
  | 20 => ⟨S1x16x256x4x128, .f32⟩
  | 21 => ⟨S1x16x256x4x128, .f32⟩
  | 22 => ⟨S2x16x256x4x128, .f32⟩
  | 23 => ⟨S16x256x4x128, .f32⟩
  | 24 => ⟨S1x16x256x4x128, .f32⟩
  | 25 => ⟨S1x16x256x4x128, .f32⟩
  | 26 => ⟨S2x16x256x4x128, .f32⟩
  | 27 => ⟨S2x16x4x64x4x128, .f32⟩
  | 28 => ⟨S2x4x16x64x4x128, .f32⟩
  | 29 => ⟨S2x4x16x4x64x128, .f32⟩
  | 30 => ⟨S2x16x4x64x4x128, .f32⟩
  | 31 => ⟨S2x4x16x64x4x128, .f32⟩
  | 32 => ⟨S2x4x16x4x64x128, .f32⟩
  | 33 => ⟨S2x16x4x64x4x128, .f32⟩
  | 34 => ⟨S2x4x16x64x4x128, .f32⟩
  | 35 => ⟨S2x4x16x4x64x128, .f32⟩
  | 36 => ⟨S64, .f32⟩
  | 37 => ⟨S2x4x1, .f32⟩
  | 38 => ⟨S64x1, .f32⟩
  | 39 => ⟨S1x64, .f32⟩
  | 40 => ⟨S64x64, .f32⟩
  | 41 => ⟨S64x64, .f32⟩
  | 42 => ⟨S64x64, .f32⟩
  | 43 => ⟨S_, .f32⟩
  | 44 => ⟨S64x64, .f32⟩
  | 45 => ⟨S64x64, .i1⟩
  | 46 => ⟨S2x4x1x1, .f32⟩
  | 47 => ⟨S1x64x64, .f32⟩
  | 48 => ⟨S1x1x64x64, .f32⟩
  | 49 => ⟨S2x4x64x64, .f32⟩
  | 50 => ⟨S2x4x64x64, .f32⟩
  | 51 => ⟨S2x4x64x64, .f32⟩
  | 52 => ⟨S_, .f32⟩
  | 53 => ⟨S_, .f32⟩
  | 54 => ⟨S4x64x64, .i1⟩
  | 55 => ⟨S4x64x64, .f32⟩
  | 56 => ⟨S2x4x64x64, .i1⟩
  | 57 => ⟨S2x4x64x64, .f32⟩
  | 58 => ⟨S2x4x64x64, .f32⟩
  | 59 => ⟨S2x4x64x64, .f32⟩
  | 60 => ⟨S_, .f32⟩
  | 61 => ⟨S64, .f32⟩
  | 62 => ⟨S64, .f32⟩
  | 63 => ⟨S1x64, .f32⟩
  | 64 => ⟨S1x1x64, .f32⟩
  | 65 => ⟨S2x4x64, .f32⟩
  | 66 => ⟨S2x4x64, .f32⟩
  | 67 => ⟨S2x4x64, .f32⟩
  | 68 => ⟨S2x4x64, .f32⟩
  | 69 => ⟨S2x1x4x64x1, .f32⟩
  | 70 => ⟨S_, .f32⟩
  | 71 => ⟨S64, .f32⟩
  | 72 => ⟨S64, .f32⟩
  | 73 => ⟨S1x64, .f32⟩
  | 74 => ⟨S1x1x64, .f32⟩
  | 75 => ⟨S2x4x64, .f32⟩
  | 76 => ⟨S2x4x64, .f32⟩
  | 77 => ⟨S2x4x64, .f32⟩
  | 78 => ⟨S2x4x64, .f32⟩
  | 79 => ⟨S2x1x4x64x1, .f32⟩
  | 80 => ⟨S_, .f32⟩
  | 81 => ⟨S2x4, .f32⟩
  | 82 => ⟨S2x4, .f32⟩
  | 83 => ⟨S2x4, .f32⟩
  | 84 => ⟨S2x1x4x1x1, .f32⟩
  | 85 => ⟨S2x16x4x128x128, .f32⟩
  | 86 => ⟨S4x2x16x4x64x128, .f32⟩
  | 87 => ⟨S4x2x16x4x64x128, .f32⟩
  | 88 => ⟨S4x2x16x4x64x128, .f32⟩
  | 89 => ⟨S_, .f32⟩
  | 90 => ⟨S4x2x16x4x64x128, .f32⟩
  | 91 => ⟨S_, .i32⟩
  | 92 => ⟨S4x2x16x4x64x128, .f32⟩
  | 93 => ⟨S4x2x16x4x64x128, .f32⟩
  | 94 => ⟨S4x2x16x4x64x128, .f32⟩
  | 95 => ⟨S2x4x64x64, .f32⟩
  | 96 => ⟨S2x1x4x64x1, .f32⟩
  | 97 => ⟨S2x1x4x1x1, .f32⟩
  | 98 => ⟨S2x1x4x64x1, .f32⟩
  | 99 => ⟨S_, .i32⟩
  | 100 => ⟨S2x16x4x128x128, .f32⟩
  | 101 => ⟨S4x2x16x4x64x128, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S1x2x16x4x64x128, .f32⟩
  | 110 => ⟨S2x16x4x64x128, .f32⟩
  | 111 => ⟨S_, .i32⟩
  | 112 => ⟨S_, .i32⟩
  | 113 => ⟨S_, .i32⟩
  | 114 => ⟨S_, .i32⟩
  | 115 => ⟨S_, .i32⟩
  | 116 => ⟨S1x2x16x4x64x128, .f32⟩
  | 117 => ⟨S2x16x4x64x128, .f32⟩
  | 118 => ⟨S_, .i32⟩
  | 119 => ⟨S_, .i32⟩
  | 120 => ⟨S_, .i32⟩
  | 121 => ⟨S_, .i32⟩
  | 122 => ⟨S_, .i32⟩
  | 123 => ⟨S1x2x16x4x64x128, .f32⟩
  | 124 => ⟨S2x16x4x64x128, .f32⟩
  | 125 => ⟨S2x16x4x64x64, .f32⟩
  | 126 => ⟨S2x1x4x64x64, .f32⟩
  | 127 => ⟨S2x16x4x64x64, .f32⟩
  | _ => ⟨S12288x512, .f32⟩

abbrev hbmTy0_1 (i : Nat) : BufTy := match i % 128 with
  | 0 => ⟨S2x16x4x64x64, .f32⟩
  | 1 => ⟨S2x16x4x64x128, .f32⟩
  | 2 => ⟨S2x16x4x64x128, .f32⟩
  | 3 => ⟨S2x16x4x64x128, .f32⟩
  | 4 => ⟨S2x16x4x64x128, .f32⟩
  | 5 => ⟨S2x16x4x64x128, .f32⟩
  | 6 => ⟨S2x16x4x128x128, .f32⟩
  | 7 => ⟨S2x16x4x128x128, .f32⟩
  | 8 => ⟨S2x16x4x64x128, .f32⟩
  | 9 => ⟨S2x16x4x64x128, .f32⟩
  | 10 => ⟨S2x16x4x128x128, .f32⟩
  | 11 => ⟨S2x16x4x128x128, .f32⟩
  | 12 => ⟨S1x2x16x4x64x128, .f32⟩
  | 13 => ⟨S_, .i32⟩
  | 14 => ⟨S_, .i32⟩
  | 15 => ⟨S_, .i32⟩
  | 16 => ⟨S_, .i32⟩
  | 17 => ⟨S_, .i32⟩
  | 18 => ⟨S4x2x16x4x64x128, .f32⟩
  | 19 => ⟨S_, .i32⟩
  | 20 => ⟨S_, .i32⟩
  | 21 => ⟨S2x4x16x64x4x128, .f32⟩
  | 22 => ⟨S2x16x4x64x4x128, .f32⟩
  | 23 => ⟨S2x16x256x4x128, .f32⟩
  | 24 => ⟨S16x2x4x128x128, .f32⟩
  | 25 => ⟨S1x16x256x4x128, .f32⟩
  | 26 => ⟨S16x256x4x128, .f32⟩
  | 27 => ⟨S1x16x256x4x128, .f32⟩
  | 28 => ⟨S16x256x4x128, .f32⟩
  | 29 => ⟨S16x256x4x128, .f32⟩
  | 30 => ⟨S4096x512, .f32⟩
  | 31 => ⟨S_, .i32⟩
  | 32 => ⟨S_, .f32⟩
  | 33 => ⟨S12288x512, .f32⟩
  | 34 => ⟨S4096x512, .f32⟩
  | 35 => ⟨S_, .i32⟩
  | 36 => ⟨S_, .f32⟩
  | 37 => ⟨S12288x512, .f32⟩
  | _ => ⟨S12288x512, .f32⟩

abbrev hbmTy (i : Nat) : BufTy := match i / 128 with
  | 0 => hbmTy0_0 i
  | 1 => hbmTy0_1 i
  | _ => ⟨S12288x512, .f32⟩

abbrev bufTy : (tb : Table) → Fin (tcTables nBuf tb) → BufTy
  | .hbm, ⟨i, _⟩ => hbmTy i
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_0 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_1 : Ref sig .tc := ⟨.hbm, 52, rfl⟩
abbrev main_call3_v0 : Ref sig .tc := ⟨.hbm, 53, rfl⟩
abbrev main_call3_v1 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_v46 : Ref sig .tc := ⟨.hbm, 58, rfl⟩
abbrev main_v47 : Ref sig .tc := ⟨.hbm, 59, rfl⟩
abbrev main_cst_2 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_3 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_4 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_5 : Ref sig .tc := ⟨.hbm, 89, rfl⟩
abbrev main_v74 : Ref sig .tc := ⟨.hbm, 90, rfl⟩
abbrev main_c : Ref sig .tc := ⟨.hbm, 91, rfl⟩
abbrev main_v75_0 : Ref sig .tc := ⟨.hbm, 92, rfl⟩
abbrev main_v75_1 : Ref sig .tc := ⟨.hbm, 93, rfl⟩
abbrev main_v75_2 : Ref sig .tc := ⟨.hbm, 94, rfl⟩
abbrev main_v75_3 : Ref sig .tc := ⟨.hbm, 95, rfl⟩
abbrev main_v75_4 : Ref sig .tc := ⟨.hbm, 96, rfl⟩
abbrev main_v75_5 : Ref sig .tc := ⟨.hbm, 97, rfl⟩
abbrev main_v75_6 : Ref sig .tc := ⟨.hbm, 98, rfl⟩
abbrev main_v75_7 : Ref sig .tc := ⟨.hbm, 99, rfl⟩
abbrev main_v75_8 : Ref sig .tc := ⟨.hbm, 100, rfl⟩
abbrev main_v75_9 : Ref sig .tc := ⟨.hbm, 101, rfl⟩
abbrev main_while0c_c_17 : Ref sig .tc := ⟨.hbm, 102, rfl⟩
abbrev main_while0c_v89 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_c_2 : Ref sig .tc := ⟨.hbm, 107, rfl⟩
abbrev main_while0b_call4_c_3 : Ref sig .tc := ⟨.hbm, 108, rfl⟩
abbrev main_while0b_call4_v0 : Ref sig .tc := ⟨.hbm, 109, rfl⟩
abbrev main_while0b_v89 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_call5_c_3 : Ref sig .tc := ⟨.hbm, 115, rfl⟩
abbrev main_while0b_call5_v0 : Ref sig .tc := ⟨.hbm, 116, rfl⟩
abbrev main_while0b_v90 : Ref sig .tc := ⟨.hbm, 117, rfl⟩
abbrev main_while0b_call6_c : Ref sig .tc := ⟨.hbm, 118, rfl⟩
abbrev main_while0b_call6_c_0 : Ref sig .tc := ⟨.hbm, 119, rfl⟩
abbrev main_while0b_call6_c_1 : Ref sig .tc := ⟨.hbm, 120, rfl⟩
abbrev main_while0b_call6_c_2 : Ref sig .tc := ⟨.hbm, 121, rfl⟩
abbrev main_while0b_call6_c_3 : Ref sig .tc := ⟨.hbm, 122, rfl⟩
abbrev main_while0b_call6_v0 : Ref sig .tc := ⟨.hbm, 123, rfl⟩
abbrev main_while0b_v91 : Ref sig .tc := ⟨.hbm, 124, rfl⟩
abbrev main_while0b_v92 : Ref sig .tc := ⟨.hbm, 125, rfl⟩
abbrev main_while0b_v93 : Ref sig .tc := ⟨.hbm, 126, rfl⟩
abbrev main_while0b_v94 : Ref sig .tc := ⟨.hbm, 127, rfl⟩
abbrev main_while0b_v95 : Ref sig .tc := ⟨.hbm, 128, rfl⟩
abbrev main_while0b_v96 : Ref sig .tc := ⟨.hbm, 129, rfl⟩
abbrev main_while0b_v97 : Ref sig .tc := ⟨.hbm, 130, rfl⟩
abbrev main_while0b_v98 : Ref sig .tc := ⟨.hbm, 131, rfl⟩
abbrev main_while0b_v99 : Ref sig .tc := ⟨.hbm, 132, rfl⟩
abbrev main_while0b_v100 : Ref sig .tc := ⟨.hbm, 133, rfl⟩
abbrev main_while0b_v101 : Ref sig .tc := ⟨.hbm, 134, rfl⟩
abbrev main_while0b_v102 : Ref sig .tc := ⟨.hbm, 135, rfl⟩
abbrev main_while0b_v103 : Ref sig .tc := ⟨.hbm, 136, rfl⟩
abbrev main_while0b_v104 : Ref sig .tc := ⟨.hbm, 137, rfl⟩
abbrev main_while0b_v105 : Ref sig .tc := ⟨.hbm, 138, rfl⟩
abbrev main_while0b_v106 : Ref sig .tc := ⟨.hbm, 139, rfl⟩
abbrev main_while0b_call7_v0 : Ref sig .tc := ⟨.hbm, 140, rfl⟩
abbrev main_while0b_call7_c : Ref sig .tc := ⟨.hbm, 141, rfl⟩
abbrev main_while0b_call7_c_0 : Ref sig .tc := ⟨.hbm, 142, rfl⟩
abbrev main_while0b_call7_c_1 : Ref sig .tc := ⟨.hbm, 143, rfl⟩
abbrev main_while0b_call7_c_2 : Ref sig .tc := ⟨.hbm, 144, rfl⟩
abbrev main_while0b_call7_c_3 : Ref sig .tc := ⟨.hbm, 145, rfl⟩
abbrev main_while0b_v107 : Ref sig .tc := ⟨.hbm, 146, rfl⟩
abbrev main_while0b_c_17 : Ref sig .tc := ⟨.hbm, 147, rfl⟩
abbrev main_while0b_v108 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_v81 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_v85 : Ref sig .tc := ⟨.hbm, 158, rfl⟩
abbrev main_c_6 : Ref sig .tc := ⟨.hbm, 159, rfl⟩
abbrev main_call9_v0 : Ref sig .tc := ⟨.hbm, 160, rfl⟩
abbrev main_v86 : Ref sig .tc := ⟨.hbm, 161, rfl⟩
abbrev main_v87 : Ref sig .tc := ⟨.hbm, 162, rfl⟩
abbrev main_c_7 : Ref sig .tc := ⟨.hbm, 163, rfl⟩
abbrev main_call10_v0 : Ref sig .tc := ⟨.hbm, 164, rfl⟩
abbrev main_v88 : Ref sig .tc := ⟨.hbm, 165, rfl⟩

abbrev nD : Nat := 1
abbrev τ : Topo := Topo.v7x

variable {F : FTy → Type} [FloatOps F]

abbrev main_while0_count : Scf.Loop 32 := ⟨0#32, 4#32, 1#32⟩
-- ==== Kernel2.lean ====
abbrev S12288x1024 : Shape := ⟨2, ![12288, 1024]⟩
abbrev S8x1x1024 : Shape := ⟨3, ![8, 1, 1024]⟩
abbrev S1024x9856 : Shape := ⟨2, ![1024, 9856]⟩
abbrev S12288x9856 : Shape := ⟨2, ![12288, 9856]⟩
abbrev S2048x1024 : Shape := ⟨2, ![2048, 1024]⟩
abbrev S1x1x1024 : Shape := ⟨3, ![1, 1, 1024]⟩
abbrev S1024x896 : Shape := ⟨2, ![1024, 896]⟩
abbrev S2048x896 : Shape := ⟨2, ![2048, 896]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S12288x1024, .f32⟩
  | .hbm, ⟨1, _⟩ => ⟨S8x1x1024, .f32⟩
  | .hbm, ⟨2, _⟩ => ⟨S8x1x1024, .f32⟩
  | .hbm, ⟨3, _⟩ => ⟨S1024x9856, .f32⟩
  | .hbm, ⟨4, _⟩ => ⟨S1024x9856, .bf16⟩
  | .hbm, ⟨5, _⟩ => ⟨S12288x9856, .f32⟩
  | .local _ .vmem, ⟨0, _⟩ => ⟨S2048x1024, .f32⟩
  | .local _ .vmem, ⟨1, _⟩ => ⟨S2048x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x896, .bf16⟩
  | .local _ .vmem, ⟨7, _⟩ => ⟨S1024x896, .bf16⟩
  | .local _ .vmem, ⟨8, _⟩ => ⟨S2048x896, .f32⟩
  | .local _ .vmem, ⟨9, _⟩ => ⟨S2048x896, .f32⟩
  | .local _ .vmem, ⟨10, _⟩ => ⟨S2048x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c2048_i32 : BitVec 32 := 2048#32
  let v0 : BitVec 32 := Scalar.muli arg0 c2048_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S12288x1024 : Shape := ⟨2, ![12288, 1024]⟩
abbrev S8x1x1024 : Shape := ⟨3, ![8, 1, 1024]⟩
abbrev S1024x9856 : Shape := ⟨2, ![1024, 9856]⟩
abbrev S3x4096x1024 : Shape := ⟨3, ![3, 4096, 1024]⟩
abbrev S3x1x1024 : Shape := ⟨3, ![3, 1, 1024]⟩
abbrev S_ : Shape := ⟨0, ![]⟩
abbrev S3x4096x9856 : Shape := ⟨3, ![3, 4096, 9856]⟩
abbrev S12288x9856 : Shape := ⟨2, ![12288, 9856]⟩

abbrev nBuf : Space → Nat
  | .hbm => 16
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S8x1x1024, .f32⟩
  | .hbm, ⟨2, _⟩ => ⟨S8x1x1024, .f32⟩
  | .hbm, ⟨3, _⟩ => ⟨S1024x9856, .f32⟩
  | .hbm, ⟨4, _⟩ => ⟨S3x4096x1024, .f32⟩
  | .hbm, ⟨5, _⟩ => ⟨S3x1x1024, .f32⟩
  | .hbm, ⟨6, _⟩ => ⟨S_, .f32⟩
  | .hbm, ⟨7, _⟩ => ⟨S3x1x1024, .f32⟩
  | .hbm, ⟨8, _⟩ => ⟨S3x1x1024, .f32⟩
  | .hbm, ⟨9, _⟩ => ⟨S3x4096x1024, .f32⟩
  | .hbm, ⟨10, _⟩ => ⟨S3x4096x1024, .f32⟩
  | .hbm, ⟨11, _⟩ => ⟨S3x1x1024, .f32⟩
  | .hbm, ⟨12, _⟩ => ⟨S3x4096x1024, .f32⟩
  | .hbm, ⟨13, _⟩ => ⟨S3x4096x1024, .f32⟩
  | .hbm, ⟨14, _⟩ => ⟨S3x4096x9856, .f32⟩
  | .hbm, ⟨15, _⟩ => ⟨S12288x9856, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel3.lean ====
abbrev S12288x512 : Shape := ⟨2, ![12288, 512]⟩
abbrev S12288x9856 : Shape := ⟨2, ![12288, 9856]⟩
abbrev S12288x1024 : Shape := ⟨2, ![12288, 1024]⟩
abbrev S8x1x1024 : Shape := ⟨3, ![8, 1, 1024]⟩
abbrev S3x128 : Shape := ⟨2, ![3, 128]⟩
abbrev S3x512x1024 : Shape := ⟨3, ![3, 512, 1024]⟩
abbrev S1024x1024 : Shape := ⟨2, ![1024, 1024]⟩
abbrev S2x1024 : Shape := ⟨2, ![2, 1024]⟩
abbrev S1x1024 : Shape := ⟨2, ![1, 1024]⟩
abbrev S256x512 : Shape := ⟨2, ![256, 512]⟩
abbrev S256x3072 : Shape := ⟨2, ![256, 3072]⟩
abbrev S256x1024 : Shape := ⟨2, ![256, 1024]⟩
abbrev S1x1x1024 : Shape := ⟨3, ![1, 1, 1024]⟩
abbrev S256x128 : Shape := ⟨2, ![256, 128]⟩
abbrev S256 : Shape := ⟨1, ![256]⟩
abbrev S256x1 : Shape := ⟨2, ![256, 1]⟩
abbrev S1x128 : Shape := ⟨2, ![1, 128]⟩
abbrev S1x512x1024 : Shape := ⟨3, ![1, 512, 1024]⟩
abbrev S512x1024 : Shape := ⟨2, ![512, 1024]⟩

abbrev nBuf : Space → Nat
  | .hbm => 19
  | .vmem => 31
  | .smem => 0
  | _ => 0

abbrev bufTy : (tb : Table) → Fin (tcTables nBuf tb) → BufTy
  | .hbm, ⟨0, _⟩ => ⟨S12288x512, .f32⟩
  | .hbm, ⟨1, _⟩ => ⟨S12288x512, .f32⟩
  | .hbm, ⟨2, _⟩ => ⟨S12288x512, .f32⟩
  | .hbm, ⟨3, _⟩ => ⟨S12288x512, .f32⟩
  | .hbm, ⟨4, _⟩ => ⟨S12288x512, .f32⟩
  | .hbm, ⟨5, _⟩ => ⟨S12288x512, .f32⟩
  | .hbm, ⟨6, _⟩ => ⟨S12288x9856, .f32⟩
  | .hbm, ⟨7, _⟩ => ⟨S12288x1024, .f32⟩
  | .hbm, ⟨8, _⟩ => ⟨S8x1x1024, .f32⟩
  | .hbm, ⟨9, _⟩ => ⟨S3x128, .f32⟩
  | .hbm, ⟨10, _⟩ => ⟨S3x512x1024, .f32⟩
  | .hbm, ⟨11, _⟩ => ⟨S1024x1024, .f32⟩
  | .hbm, ⟨12, _⟩ => ⟨S2x1024, .f32⟩
  | .hbm, ⟨13, _⟩ => ⟨S2x1024, .f32⟩
  | .hbm, ⟨14, _⟩ => ⟨S3x512x1024, .bf16⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S12288x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x3072, .f32⟩
  | .local _ .vmem, ⟨19, _⟩ => ⟨S256x3072, .f32⟩
  | .local _ .vmem, ⟨20, _⟩ => ⟨S256x1024, .f32⟩
  | .local _ .vmem, ⟨21, _⟩ => ⟨S256x1024, .f32⟩
  | .local _ .vmem, ⟨22, _⟩ => ⟨S1x1x1024, .f32⟩
  | .local _ .vmem, ⟨23, _⟩ => ⟨S1x1x1024, .f32⟩
  | .local _ .vmem, ⟨24, _⟩ => ⟨S3x128, .f32⟩
  | .local _ .vmem, ⟨25, _⟩ => ⟨S3x512x1024, .bf16⟩
  | .local _ .vmem, ⟨26, _⟩ => ⟨S1024x1024, .bf16⟩
  | .local _ .vmem, ⟨27, _⟩ => ⟨S1x1024, .f32⟩
  | .local _ .vmem, ⟨28, _⟩ => ⟨S1x1024, .f32⟩
  | .local _ .vmem, ⟨29, _⟩ => ⟨S256x1024, .f32⟩
  | .local _ .vmem, ⟨30, _⟩ => ⟨S256x1024, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg17_0 : Ref sig .tc := ⟨.vmem, 29, rfl⟩
abbrev cc0_stg17_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_8 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S12288x512 : Shape := ⟨2, ![12288, 512]⟩
abbrev S12288x9856 : Shape := ⟨2, ![12288, 9856]⟩
abbrev S12288x1024 : Shape := ⟨2, ![12288, 1024]⟩
abbrev S8x1x1024 : Shape := ⟨3, ![8, 1, 1024]⟩
abbrev S3x128 : Shape := ⟨2, ![3, 128]⟩
abbrev S3x512x1024 : Shape := ⟨3, ![3, 512, 1024]⟩
abbrev S1024x1024 : Shape := ⟨2, ![1024, 1024]⟩
abbrev S2x1024 : Shape := ⟨2, ![2, 1024]⟩
abbrev S12288x3072 : Shape := ⟨2, ![12288, 3072]⟩
abbrev S3x4096x4x128 : Shape := ⟨4, ![3, 4096, 4, 128]⟩
abbrev S1x128 : Shape := ⟨2, ![1, 128]⟩
abbrev S128 : Shape := ⟨1, ![128]⟩
abbrev S_ : Shape := ⟨0, ![]⟩
abbrev S3x4096x4 : Shape := ⟨3, ![3, 4096, 4]⟩
abbrev S3x4096x4x1 : Shape := ⟨4, ![3, 4096, 4, 1]⟩
abbrev S1x1x1x128 : Shape := ⟨4, ![1, 1, 1, 128]⟩
abbrev S3x4096x1x4x128 : Shape := ⟨5, ![3, 4096, 1, 4, 128]⟩
abbrev S3x4096x3x4x128 : Shape := ⟨5, ![3, 4096, 3, 4, 128]⟩
abbrev S3x4096x3x512 : Shape := ⟨4, ![3, 4096, 3, 512]⟩
abbrev S3x1024x3x4096 : Shape := ⟨4, ![3, 1024, 3, 4096]⟩
abbrev S3x4096x3x1024 : Shape := ⟨4, ![3, 4096, 3, 1024]⟩
abbrev S3x4096x1024 : Shape := ⟨3, ![3, 4096, 1024]⟩
abbrev S3x1x1024 : Shape := ⟨3, ![3, 1, 1024]⟩
abbrev S1x1024 : Shape := ⟨2, ![1, 1024]⟩
abbrev S1024 : Shape := ⟨1, ![1024]⟩
abbrev S3x4096 : Shape := ⟨2, ![3, 4096]⟩
abbrev S3x4096x1 : Shape := ⟨3, ![3, 4096, 1]⟩
abbrev S1x1x1024 : Shape := ⟨3, ![1, 1, 1024]⟩

abbrev nBuf : Space → Nat
  | .hbm => 186
  | .vmem => 0
  | .smem => 0
  | _ => 0

abbrev hbmTy0_0 (i : Nat) : BufTy := match i % 128 with
  | 0 => ⟨S12288x512, .f32⟩
  | 1 => ⟨S12288x512, .f32⟩
  | 2 => ⟨S12288x512, .f32⟩
  | 3 => ⟨S12288x512, .f32⟩
  | 4 => ⟨S12288x512, .f32⟩
  | 5 => ⟨S12288x512, .f32⟩
  | 6 => ⟨S12288x9856, .f32⟩
  | 7 => ⟨S12288x1024, .f32⟩
  | 8 => ⟨S8x1x1024, .f32⟩
  | 9 => ⟨S3x128, .f32⟩
  | 10 => ⟨S3x512x1024, .f32⟩
  | 11 => ⟨S1024x1024, .f32⟩
  | 12 => ⟨S2x1024, .f32⟩
  | 13 => ⟨S2x1024, .f32⟩
  | 14 => ⟨S12288x3072, .f32⟩
  | 15 => ⟨S12288x512, .f32⟩
  | 16 => ⟨S12288x512, .f32⟩
  | 17 => ⟨S12288x512, .f32⟩
  | 18 => ⟨S3x4096x4x128, .f32⟩
  | 19 => ⟨S3x4096x4x128, .f32⟩
  | 20 => ⟨S3x4096x4x128, .f32⟩
  | 21 => ⟨S1x128, .f32⟩
  | 22 => ⟨S128, .f32⟩
  | 23 => ⟨S3x4096x4x128, .f32⟩
  | 24 => ⟨S_, .f32⟩
  | 25 => ⟨S3x4096x4, .f32⟩
  | 26 => ⟨S3x4096x4x1, .f32⟩
  | 27 => ⟨S_, .f32⟩
  | 28 => ⟨S3x4096x4x1, .f32⟩
  | 29 => ⟨S3x4096x4x1, .f32⟩
  | 30 => ⟨S_, .f32⟩
  | 31 => ⟨S3x4096x4x1, .f32⟩
  | 32 => ⟨S3x4096x4x1, .f32⟩
  | 33 => ⟨S3x4096x4x1, .f32⟩
  | 34 => ⟨S3x4096x4x128, .f32⟩
  | 35 => ⟨S3x4096x4x128, .f32⟩
  | 36 => ⟨S1x1x1x128, .f32⟩
  | 37 => ⟨S3x4096x4x128, .f32⟩
  | 38 => ⟨S3x4096x4x128, .f32⟩
  | 39 => ⟨S3x4096x4x128, .f32⟩
  | 40 => ⟨S3x4096x4x128, .f32⟩
  | 41 => ⟨S3x4096x4x128, .f32⟩
  | 42 => ⟨S_, .f32⟩
  | 43 => ⟨S3x4096x4x128, .f32⟩
  | 44 => ⟨S3x4096x4x128, .f32⟩
  | 45 => ⟨S_, .f32⟩
  | 46 => ⟨S3x4096x4x128, .f32⟩
  | 47 => ⟨S3x4096x4x128, .f32⟩
  | 48 => ⟨S3x4096x4x128, .f32⟩
  | 49 => ⟨S3x4096x4x128, .f32⟩
  | 50 => ⟨S3x4096x4x128, .f32⟩
  | 51 => ⟨S3x4096x4x128, .f32⟩
  | 52 => ⟨S3x4096x4x128, .f32⟩
  | 53 => ⟨S1x128, .f32⟩
  | 54 => ⟨S128, .f32⟩
  | 55 => ⟨S_, .f32⟩
  | 56 => ⟨S3x4096x4, .f32⟩
  | 57 => ⟨S3x4096x4x1, .f32⟩
  | 58 => ⟨S_, .f32⟩
  | 59 => ⟨S3x4096x4x1, .f32⟩
  | 60 => ⟨S3x4096x4x1, .f32⟩
  | 61 => ⟨S3x4096x4x128, .f32⟩
  | 62 => ⟨S3x4096x4x128, .f32⟩
  | 63 => ⟨S3x4096x4x128, .f32⟩
  | 64 => ⟨S_, .f32⟩
  | 65 => ⟨S3x4096x4, .f32⟩
  | 66 => ⟨S3x4096x4x1, .f32⟩
  | 67 => ⟨S_, .f32⟩
  | 68 => ⟨S3x4096x4x1, .f32⟩
  | 69 => ⟨S3x4096x4x1, .f32⟩
  | 70 => ⟨S3x4096x4x128, .f32⟩
  | 71 => ⟨S3x4096x4x128, .f32⟩
  | 72 => ⟨S_, .f32⟩
  | 73 => ⟨S3x4096x4x1, .f32⟩
  | 74 => ⟨S3x4096x4x1, .f32⟩
  | 75 => ⟨S3x4096x4x1, .f32⟩
  | 76 => ⟨S3x4096x4x128, .f32⟩
  | 77 => ⟨S3x4096x4x128, .f32⟩
  | 78 => ⟨S1x1x1x128, .f32⟩
  | 79 => ⟨S3x4096x4x128, .f32⟩
  | 80 => ⟨S3x4096x4x128, .f32⟩
  | 81 => ⟨S3x4096x4x128, .f32⟩
  | 82 => ⟨S3x4096x4x128, .f32⟩
  | 83 => ⟨S3x4096x4x128, .f32⟩
  | 84 => ⟨S_, .f32⟩
  | 85 => ⟨S3x4096x4x128, .f32⟩
  | 86 => ⟨S3x4096x4x128, .f32⟩
  | 87 => ⟨S_, .f32⟩
  | 88 => ⟨S3x4096x4x128, .f32⟩
  | 89 => ⟨S3x4096x4x128, .f32⟩
  | 90 => ⟨S3x4096x4x128, .f32⟩
  | 91 => ⟨S3x4096x4x128, .f32⟩
  | 92 => ⟨S3x4096x4x128, .f32⟩
  | 93 => ⟨S3x4096x4x128, .f32⟩
  | 94 => ⟨S3x4096x4x128, .f32⟩
  | 95 => ⟨S1x128, .f32⟩
  | 96 => ⟨S128, .f32⟩
  | 97 => ⟨S3x4096x4x128, .f32⟩
  | 98 => ⟨S_, .f32⟩
  | 99 => ⟨S3x4096x4, .f32⟩
  | 100 => ⟨S3x4096x4x1, .f32⟩
  | 101 => ⟨S_, .f32⟩
  | 102 => ⟨S3x4096x4x1, .f32⟩
  | 103 => ⟨S3x4096x4x1, .f32⟩
  | 104 => ⟨S_, .f32⟩
  | 105 => ⟨S3x4096x4x1, .f32⟩
  | 106 => ⟨S3x4096x4x1, .f32⟩
  | 107 => ⟨S3x4096x4x1, .f32⟩
  | 108 => ⟨S3x4096x4x128, .f32⟩
  | 109 => ⟨S3x4096x4x128, .f32⟩
  | 110 => ⟨S1x1x1x128, .f32⟩
  | 111 => ⟨S3x4096x4x128, .f32⟩
  | 112 => ⟨S3x4096x4x128, .f32⟩
  | 113 => ⟨S3x4096x4x128, .f32⟩
  | 114 => ⟨S3x4096x4x128, .f32⟩
  | 115 => ⟨S3x4096x4x128, .f32⟩
  | 116 => ⟨S_, .f32⟩
  | 117 => ⟨S3x4096x4x128, .f32⟩
  | 118 => ⟨S3x4096x4x128, .f32⟩
  | 119 => ⟨S_, .f32⟩
  | 120 => ⟨S3x4096x4x128, .f32⟩
  | 121 => ⟨S3x4096x4x128, .f32⟩
  | 122 => ⟨S3x4096x4x128, .f32⟩
  | 123 => ⟨S3x4096x4x128, .f32⟩
  | 124 => ⟨S3x4096x1x4x128, .f32⟩
  | 125 => ⟨S3x4096x1x4x128, .f32⟩
  | 126 => ⟨S3x4096x1x4x128, .f32⟩
  | 127 => ⟨S3x4096x3x4x128, .f32⟩
  | _ => ⟨S12288x512, .f32⟩

abbrev hbmTy0_1 (i : Nat) : BufTy := match i % 128 with
  | 0 => ⟨S3x4096x3x512, .f32⟩
  | 1 => ⟨S3x1024x3x4096, .f32⟩
  | 2 => ⟨S3x4096x3x1024, .f32⟩
  | 3 => ⟨S3x4096x3x1024, .f32⟩
  | 4 => ⟨S3x4096x3x1024, .f32⟩
  | 5 => ⟨S3x4096x3x1024, .f32⟩
  | 6 => ⟨S_, .f32⟩
  | 7 => ⟨S3x4096x3x1024, .f32⟩
  | 8 => ⟨S3x4096x3x1024, .f32⟩
  | 9 => ⟨S_, .f32⟩
  | 10 => ⟨S3x4096x3x1024, .f32⟩
  | 11 => ⟨S3x4096x3x1024, .f32⟩
  | 12 => ⟨S3x4096x3x1024, .f32⟩
  | 13 => ⟨S_, .f32⟩
  | 14 => ⟨S3x4096x1024, .f32⟩
  | 15 => ⟨S3x4096x1024, .f32⟩
  | 16 => ⟨S3x4096x1024, .f32⟩
  | 17 => ⟨S_, .f32⟩
  | 18 => ⟨S3x4096x1024, .f32⟩
  | 19 => ⟨S3x4096x1024, .f32⟩
  | 20 => ⟨S3x1x1024, .f32⟩
  | 21 => ⟨S3x4096x1024, .f32⟩
  | 22 => ⟨S3x4096x1024, .f32⟩
  | 23 => ⟨S3x4096x1024, .f32⟩
  | 24 => ⟨S1x1024, .f32⟩
  | 25 => ⟨S1024, .f32⟩
  | 26 => ⟨S1x1024, .f32⟩
  | 27 => ⟨S1024, .f32⟩
  | 28 => ⟨S_, .f32⟩
  | 29 => ⟨S3x4096, .f32⟩
  | 30 => ⟨S3x4096x1, .f32⟩
  | 31 => ⟨S_, .f32⟩
  | 32 => ⟨S3x4096x1, .f32⟩
  | 33 => ⟨S3x4096x1, .f32⟩
  | 34 => ⟨S3x4096x1024, .f32⟩
  | 35 => ⟨S3x4096x1024, .f32⟩
  | 36 => ⟨S3x4096x1024, .f32⟩
  | 37 => ⟨S_, .f32⟩
  | 38 => ⟨S3x4096, .f32⟩
  | 39 => ⟨S3x4096x1, .f32⟩
  | 40 => ⟨S_, .f32⟩
  | 41 => ⟨S3x4096x1, .f32⟩
  | 42 => ⟨S3x4096x1, .f32⟩
  | 43 => ⟨S3x4096x1024, .f32⟩
  | 44 => ⟨S3x4096x1024, .f32⟩
  | 45 => ⟨S_, .f32⟩
  | 46 => ⟨S3x4096x1, .f32⟩
  | 47 => ⟨S3x4096x1, .f32⟩
  | 48 => ⟨S3x4096x1, .f32⟩
  | 49 => ⟨S3x4096x1024, .f32⟩
  | 50 => ⟨S3x4096x1024, .f32⟩
  | 51 => ⟨S1x1x1024, .f32⟩
  | 52 => ⟨S3x4096x1024, .f32⟩
  | 53 => ⟨S3x4096x1024, .f32⟩
  | 54 => ⟨S1x1x1024, .f32⟩
  | 55 => ⟨S3x4096x1024, .f32⟩
  | 56 => ⟨S3x4096x1024, .f32⟩
  | 57 => ⟨S12288x1024, .f32⟩
  | _ => ⟨S12288x512, .f32⟩

abbrev hbmTy (i : Nat) : BufTy := match i / 128 with
  | 0 => hbmTy0_0 i
  | 1 => hbmTy0_1 i
  | _ => ⟨S12288x512, .f32⟩

abbrev bufTy : (tb : Table) → Fin (tcTables nBuf tb) → BufTy
  | .hbm, ⟨i, _⟩ => hbmTy i
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_2 : Ref sig .tc := ⟨.hbm, 55, rfl⟩
abbrev main_v30 : Ref sig .tc := ⟨.hbm, 56, rfl⟩
abbrev main_v31 : Ref sig .tc := ⟨.hbm, 57, rfl⟩
abbrev main_cst_3 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_4 : Ref sig .tc := ⟨.hbm, 64, rfl⟩
abbrev main_v37 : Ref sig .tc := ⟨.hbm, 65, rfl⟩
abbrev main_v38 : Ref sig .tc := ⟨.hbm, 66, rfl⟩
abbrev main_cst_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_6 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_call1_v0 : Ref sig .tc := ⟨.hbm, 82, rfl⟩
abbrev main_call1_v1 : Ref sig .tc := ⟨.hbm, 83, rfl⟩
abbrev main_call1_cst : Ref sig .tc := ⟨.hbm, 84, rfl⟩
abbrev main_call1_v2 : Ref sig .tc := ⟨.hbm, 85, rfl⟩
abbrev main_call1_v3 : Ref sig .tc := ⟨.hbm, 86, rfl⟩
abbrev main_call1_cst_0 : Ref sig .tc := ⟨.hbm, 87, rfl⟩
abbrev main_call1_v4 : Ref sig .tc := ⟨.hbm, 88, rfl⟩
abbrev main_call1_v5 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_7 : Ref sig .tc := ⟨.hbm, 98, rfl⟩
abbrev main_v60 : Ref sig .tc := ⟨.hbm, 99, rfl⟩
abbrev main_v61 : Ref sig .tc := ⟨.hbm, 100, rfl⟩
abbrev main_cst_8 : Ref sig .tc := ⟨.hbm, 101, rfl⟩
abbrev main_v62 : Ref sig .tc := ⟨.hbm, 102, rfl⟩
abbrev main_v63 : Ref sig .tc := ⟨.hbm, 103, rfl⟩
abbrev main_cst_9 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_cst_10 : Ref sig .tc := ⟨.hbm, 134, rfl⟩
abbrev main_v85 : Ref sig .tc := ⟨.hbm, 135, rfl⟩
abbrev main_v86 : Ref sig .tc := ⟨.hbm, 136, rfl⟩
abbrev main_cst_11 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_12 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_13 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_cst_14 : Ref sig .tc := ⟨.hbm, 156, rfl⟩
abbrev main_v103 : Ref sig .tc := ⟨.hbm, 157, rfl⟩
abbrev main_v104 : Ref sig .tc := ⟨.hbm, 158, rfl⟩
abbrev main_cst_15 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_cst_16 : Ref sig .tc := ⟨.hbm, 165, rfl⟩
abbrev main_v110 : Ref sig .tc := ⟨.hbm, 166, rfl⟩
abbrev main_v111 : Ref sig .tc := ⟨.hbm, 167, rfl⟩
abbrev main_cst_17 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_18 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩

abbrev nD : Nat := 1
abbrev τ : Topo := Topo.v7x

variable {F : FTy → Type} [FloatOps F]
-- ==== Kernel4.lean ====
abbrev S12288x512 : Shape := ⟨2, ![12288, 512]⟩
abbrev S2x12288x512 : Shape := ⟨3, ![2, 12288, 512]⟩
abbrev S12288x9856 : Shape := ⟨2, ![12288, 9856]⟩
abbrev S_ : Shape := ⟨0, ![]⟩
abbrev S16x2x4x128x128 : Shape := ⟨5, ![16, 2, 4, 128, 128]⟩
abbrev S64x512 : Shape := ⟨2, ![64, 512]⟩
abbrev S1x64x512 : Shape := ⟨3, ![1, 64, 512]⟩
abbrev S1x2x4x128x128 : Shape := ⟨5, ![1, 2, 4, 128, 128]⟩
abbrev S2x4x128x128 : Shape := ⟨4, ![2, 4, 128, 128]⟩
abbrev S16x1 : Shape := ⟨2, ![16, 1]⟩
abbrev S16x64 : Shape := ⟨2, ![16, 64]⟩
abbrev S64x64 : Shape := ⟨2, ![64, 64]⟩
abbrev S64x128 : Shape := ⟨2, ![64, 128]⟩
abbrev S1x64x128 : Shape := ⟨3, ![1, 64, 128]⟩
abbrev S1x1x128x128 : Shape := ⟨4, ![1, 1, 128, 128]⟩
abbrev S128x128 : Shape := ⟨2, ![128, 128]⟩
abbrev S1x128 : Shape := ⟨2, ![1, 128]⟩
abbrev S16x128 : Shape := ⟨2, ![16, 128]⟩
abbrev S16 : Shape := ⟨1, ![16]⟩

abbrev nBuf : Space → Nat
  | .hbm => 10
  | .vmem => 25
  | .smem => 0
  | _ => 0

abbrev bufTy : (tb : Table) → Fin (tcTables nBuf tb) → BufTy
  | .hbm, ⟨0, _⟩ => ⟨S12288x512, .f32⟩
  | .hbm, ⟨1, _⟩ => ⟨S2x12288x512, .f32⟩
  | .hbm, ⟨2, _⟩ => ⟨S2x12288x512, .f32⟩
  | .hbm, ⟨3, _⟩ => ⟨S12288x9856, .f32⟩
  | .hbm, ⟨4, _⟩ => ⟨S_, .f32⟩
  | .hbm, ⟨5, _⟩ => ⟨S16x2x4x128x128, .f32⟩
  | .hbm, ⟨6, _⟩ => ⟨S16x2x4x128x128, .f32⟩
  | .hbm, ⟨7, _⟩ => ⟨S12288x512, .f32⟩
  | .hbm, ⟨8, _⟩ => ⟨S12288x512, .f32⟩
  | .hbm, ⟨9, _⟩ => ⟨S16x2x4x128x128, .f32⟩
  | .local _ .vmem, ⟨0, _⟩ => ⟨S64x512, .f32⟩
  | .local _ .vmem, ⟨1, _⟩ => ⟨S64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S1x64x512, .f32⟩
  | .local _ .vmem, ⟨11, _⟩ => ⟨S1x64x512, .f32⟩
  | .local _ .vmem, ⟨12, _⟩ => ⟨S1x64x512, .f32⟩
  | .local _ .vmem, ⟨13, _⟩ => ⟨S1x64x512, .f32⟩
  | .local _ .vmem, ⟨14, _⟩ => ⟨S64x512, .f32⟩
  | .local _ .vmem, ⟨15, _⟩ => ⟨S64x512, .f32⟩
  | .local _ .vmem, ⟨16, _⟩ => ⟨S1x2x4x128x128, .f32⟩
  | .local _ .vmem, ⟨17, _⟩ => ⟨S1x2x4x128x128, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S1x2x4x128x128, .f32⟩
  | .local _ .vmem, ⟨23, _⟩ => ⟨S1x2x4x128x128, .f32⟩
  | .local _ .vmem, ⟨24, _⟩ => ⟨S2x4x128x128, .f32⟩
  | _, _ => ⟨S12288x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32_1917 : BitVec 32 := 3#32
  let v10933 : BitVec 1 := Scalar.cmpi .eq arg1 c3_i32_1917
  let v10934 : BitVec 32 := Scalar.extui v10933
  let c0_i32_1918 : BitVec 32 := 0#32
  let v10935 : BitVec 1 := Scalar.cmpi .ne v10934 c0_i32_1918
  v10935

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c17_i32 : BitVec 32 := 17#32
  let c0_i32_0 : BitVec 32 := 0#32
  ![v2.toNat, c17_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c0_i32_1 : BitVec 32 := 0#32
  let c0_i32_2 : BitVec 32 := 0#32
  ![v4.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c1_i32_1 : BitVec 32 := 1#32
  let c0_i32_2 : BitVec 32 := 0#32
  let c0_i32_3 : BitVec 32 := 0#32
  ![c1_i32_1.toNat, v4.toNat, c0_i32_2.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c1_i32_1 : BitVec 32 := 1#32
  let c0_i32_2 : BitVec 32 := 0#32
  let c0_i32_3 : BitVec 32 := 0#32
  ![c1_i32_1.toNat, v4.toNat, c0_i32_2.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c17_i32 : BitVec 32 := 17#32
  let c0_i32_1 : BitVec 32 := 0#32
  ![v4.toNat, c17_i32.toNat]

def cc0_transform_8 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c0_i32 : BitVec 32 := 0#32
  let v1 : BitVec 32 := Scalar.addi c0_i32 v0
  let c4_i32_0 : BitVec 32 := 4#32
  let v2 : BitVec 32 := Scalar.addi v1 c4_i32_0
  let c1_i32 : BitVec 32 := 1#32
  let v3 : BitVec 32 := Scalar.subi v2 c1_i32
  let v4 : BitVec 32 := Scalar.subi v3 arg1
  let c0_i32_1 : BitVec 32 := 0#32
  let c0_i32_2 : BitVec 32 := 0#32
  ![v4.toNat, c0_i32_1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference4Ideal.lean ====
abbrev S12288x512 : Shape := ⟨2, ![12288, 512]⟩
abbrev S2x12288x512 : Shape := ⟨3, ![2, 12288, 512]⟩
abbrev S12288x9856 : Shape := ⟨2, ![12288, 9856]⟩
abbrev S4096x512 : Shape := ⟨2, ![4096, 512]⟩
abbrev S16x256x4x128 : Shape := ⟨4, ![16, 256, 4, 128]⟩
abbrev S1x12288x512 : Shape := ⟨3, ![1, 12288, 512]⟩
abbrev S1x16x256x4x128 : Shape := ⟨5, ![1, 16, 256, 4, 128]⟩
abbrev S2x16x256x4x128 : Shape := ⟨5, ![2, 16, 256, 4, 128]⟩
abbrev S_ : Shape := ⟨0, ![]⟩
abbrev S2x16x4x128x128 : Shape := ⟨5, ![2, 16, 4, 128, 128]⟩
abbrev S2x16x4x64x4x128 : Shape := ⟨6, ![2, 16, 4, 64, 4, 128]⟩
abbrev S2x4x16x64x4x128 : Shape := ⟨6, ![2, 4, 16, 64, 4, 128]⟩
abbrev S2x4x16x4x64x128 : Shape := ⟨6, ![2, 4, 16, 4, 64, 128]⟩
abbrev S4x2x16x4x64x128 : Shape := ⟨6, ![4, 2, 16, 4, 64, 128]⟩
abbrev S1x2x16x4x64x128 : Shape := ⟨6, ![1, 2, 16, 4, 64, 128]⟩
abbrev S2x16x4x64x128 : Shape := ⟨5, ![2, 16, 4, 64, 128]⟩
abbrev S2x16x4x1x128 : Shape := ⟨5, ![2, 16, 4, 1, 128]⟩
abbrev S2x16x4x128 : Shape := ⟨4, ![2, 16, 4, 128]⟩
abbrev S2x16x4x128x1 : Shape := ⟨5, ![2, 16, 4, 128, 1]⟩
abbrev S16x2x4x128x128 : Shape := ⟨5, ![16, 2, 4, 128, 128]⟩

abbrev nBuf : Space → Nat
  | .hbm => 97
  | .vmem => 0
  | .smem => 0
  | _ => 0

abbrev bufTy : (tb : Table) → Fin (tcTables nBuf tb) → BufTy
  | .hbm, ⟨0, _⟩ => ⟨S12288x512, .f32⟩
  | .hbm, ⟨1, _⟩ => ⟨S2x12288x512, .f32⟩
  | .hbm, ⟨2, _⟩ => ⟨S2x12288x512, .f32⟩
  | .hbm, ⟨3, _⟩ => ⟨S12288x9856, .f32⟩
  | .hbm, ⟨4, _⟩ => ⟨S12288x512, .f32⟩
  | .hbm, ⟨5, _⟩ => ⟨S4096x512, .f32⟩
  | .hbm, ⟨6, _⟩ => ⟨S16x256x4x128, .f32⟩
  | .hbm, ⟨7, _⟩ => ⟨S1x12288x512, .f32⟩
  | .hbm, ⟨8, _⟩ => ⟨S12288x512, .f32⟩
  | .hbm, ⟨9, _⟩ => ⟨S4096x512, .f32⟩
  | .hbm, ⟨10, _⟩ => ⟨S16x256x4x128, .f32⟩
  | .hbm, ⟨11, _⟩ => ⟨S1x12288x512, .f32⟩
  | .hbm, ⟨12, _⟩ => ⟨S12288x512, .f32⟩
  | .hbm, ⟨13, _⟩ => ⟨S4096x512, .f32⟩
  | .hbm, ⟨14, _⟩ => ⟨S16x256x4x128, .f32⟩
  | .hbm, ⟨15, _⟩ => ⟨S16x256x4x128, .f32⟩
  | .hbm, ⟨16, _⟩ => ⟨S1x16x256x4x128, .f32⟩
  | .hbm, ⟨17, _⟩ => ⟨S1x16x256x4x128, .f32⟩
  | .hbm, ⟨18, _⟩ => ⟨S2x16x256x4x128, .f32⟩
  | .hbm, ⟨19, _⟩ => ⟨S16x256x4x128, .f32⟩
  | .hbm, ⟨20, _⟩ => ⟨S1x16x256x4x128, .f32⟩
  | .hbm, ⟨21, _⟩ => ⟨S1x16x256x4x128, .f32⟩
  | .hbm, ⟨22, _⟩ => ⟨S2x16x256x4x128, .f32⟩
  | .hbm, ⟨23, _⟩ => ⟨S1x12288x512, .f32⟩
  | .hbm, ⟨24, _⟩ => ⟨S12288x512, .f32⟩
  | .hbm, ⟨25, _⟩ => ⟨S4096x512, .f32⟩
  | .hbm, ⟨26, _⟩ => ⟨S16x256x4x128, .f32⟩
  | .hbm, ⟨27, _⟩ => ⟨S1x12288x512, .f32⟩
  | .hbm, ⟨28, _⟩ => ⟨S12288x512, .f32⟩
  | .hbm, ⟨29, _⟩ => ⟨S4096x512, .f32⟩
  | .hbm, ⟨30, _⟩ => ⟨S16x256x4x128, .f32⟩
  | .hbm, ⟨31, _⟩ => ⟨S16x256x4x128, .f32⟩
  | .hbm, ⟨32, _⟩ => ⟨S1x16x256x4x128, .f32⟩
  | .hbm, ⟨33, _⟩ => ⟨S1x16x256x4x128, .f32⟩
  | .hbm, ⟨34, _⟩ => ⟨S2x16x256x4x128, .f32⟩
  | .hbm, ⟨35, _⟩ => ⟨S_, .f32⟩
  | .hbm, ⟨36, _⟩ => ⟨S2x16x4x128x128, .f32⟩
  | .hbm, ⟨37, _⟩ => ⟨S2x16x4x64x4x128, .f32⟩
  | .hbm, ⟨38, _⟩ => ⟨S2x4x16x64x4x128, .f32⟩
  | .hbm, ⟨39, _⟩ => ⟨S2x4x16x4x64x128, .f32⟩
  | .hbm, ⟨40, _⟩ => ⟨S2x16x4x64x4x128, .f32⟩
  | .hbm, ⟨41, _⟩ => ⟨S2x4x16x64x4x128, .f32⟩
  | .hbm, ⟨42, _⟩ => ⟨S2x4x16x4x64x128, .f32⟩
  | .hbm, ⟨43, _⟩ => ⟨S2x16x4x64x4x128, .f32⟩
  | .hbm, ⟨44, _⟩ => ⟨S2x4x16x64x4x128, .f32⟩
  | .hbm, ⟨45, _⟩ => ⟨S2x4x16x4x64x128, .f32⟩
  | .hbm, ⟨46, _⟩ => ⟨S_, .f32⟩
  | .hbm, ⟨47, _⟩ => ⟨S_, .f32⟩
  | .hbm, ⟨48, _⟩ => ⟨S2x4x16x4x64x128, .f32⟩
  | .hbm, ⟨49, _⟩ => ⟨S4x2x16x4x64x128, .f32⟩
  | .hbm, ⟨50, _⟩ => ⟨S4x2x16x4x64x128, .f32⟩
  | .hbm, ⟨51, _⟩ => ⟨S4x2x16x4x64x128, .f32⟩
  | .hbm, ⟨52, _⟩ => ⟨S_, .i32⟩
  | .hbm, ⟨53, _⟩ => ⟨S4x2x16x4x64x128, .f32⟩
  | .hbm, ⟨54, _⟩ => ⟨S4x2x16x4x64x128, .f32⟩
  | .hbm, ⟨55, _⟩ => ⟨S4x2x16x4x64x128, .f32⟩
  | .hbm, ⟨56, _⟩ => ⟨S_, .i32⟩
  | .hbm, ⟨57, _⟩ => ⟨S2x16x4x128x128, .f32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S1x2x16x4x64x128, .f32⟩
  | .hbm, ⟨66, _⟩ => ⟨S2x16x4x64x128, .f32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x2x16x4x64x128, .f32⟩
  | .hbm, ⟨73, _⟩ => ⟨S2x16x4x64x128, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S1x2x16x4x64x128, .f32⟩
  | .hbm, ⟨80, _⟩ => ⟨S2x16x4x64x128, .f32⟩
  | .hbm, ⟨81, _⟩ => ⟨S2x16x4x1x128, .f32⟩
  | .hbm, ⟨82, _⟩ => ⟨S2x16x4x128, .f32⟩
  | .hbm, ⟨83, _⟩ => ⟨S2x16x4x128x1, .f32⟩
  | .hbm, ⟨84, _⟩ => ⟨S2x16x4x128x1, .f32⟩
  | .hbm, ⟨85, _⟩ => ⟨S2x16x4x128x128, .f32⟩
  | .hbm, ⟨86, _⟩ => ⟨S2x16x4x128x128, .f32⟩
  | .hbm, ⟨87, _⟩ => ⟨S2x16x4x64x128, .f32⟩
  | .hbm, ⟨88, _⟩ => ⟨S2x16x4x64x128, .f32⟩
  | .hbm, ⟨89, _⟩ => ⟨S2x16x4x64x128, .f32⟩
  | .hbm, ⟨90, _⟩ => ⟨S2x16x4x64x128, .f32⟩
  | .hbm, ⟨91, _⟩ => ⟨S2x16x4x128x128, .f32⟩
  | .hbm, ⟨92, _⟩ => ⟨S2x16x4x128x128, .f32⟩
  | .hbm, ⟨93, _⟩ => ⟨S_, .i32⟩
  | .hbm, ⟨94, _⟩ => ⟨S_, .i32⟩
  | .hbm, ⟨95, _⟩ => ⟨S16x2x4x128x128, .f32⟩
  | .hbm, ⟨96, _⟩ => ⟨S16x2x4x128x128, .f32⟩
  | _, _ => ⟨S12288x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_call3_call0_cst : Ref sig .tc := ⟨.hbm, 46, rfl⟩
abbrev main_call3_call0_v0 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_c : Ref sig .tc := ⟨.hbm, 52, rfl⟩
abbrev main_v45_0 : Ref sig .tc := ⟨.hbm, 53, rfl⟩
abbrev main_v45_1 : Ref sig .tc := ⟨.hbm, 54, rfl⟩
abbrev main_v45_2 : Ref sig .tc := ⟨.hbm, 55, rfl⟩
abbrev main_v45_3 : Ref sig .tc := ⟨.hbm, 56, rfl⟩
abbrev main_v45_4 : Ref sig .tc := ⟨.hbm, 57, rfl⟩
abbrev main_while0c_c_4 : Ref sig .tc := ⟨.hbm, 58, rfl⟩
abbrev main_while0c_v48 : Ref sig .tc := ⟨.hbm, 59, rfl⟩
abbrev main_while0b_call4_c : Ref sig .tc := ⟨.hbm, 60, rfl⟩
abbrev main_while0b_call4_c_0 : Ref sig .tc := ⟨.hbm, 61, rfl⟩
abbrev main_while0b_call4_c_1 : Ref sig .tc := ⟨.hbm, 62, rfl⟩
abbrev main_while0b_call4_c_2 : Ref sig .tc := ⟨.hbm, 63, rfl⟩
abbrev main_while0b_call4_c_3 : Ref sig .tc := ⟨.hbm, 64, rfl⟩
abbrev main_while0b_call4_v0 : Ref sig .tc := ⟨.hbm, 65, rfl⟩
abbrev main_while0b_v48 : Ref sig .tc := ⟨.hbm, 66, rfl⟩
abbrev main_while0b_call5_c : Ref sig .tc := ⟨.hbm, 67, rfl⟩
abbrev main_while0b_call5_c_0 : Ref sig .tc := ⟨.hbm, 68, rfl⟩
abbrev main_while0b_call5_c_1 : Ref sig .tc := ⟨.hbm, 69, rfl⟩
abbrev main_while0b_call5_c_2 : Ref sig .tc := ⟨.hbm, 70, rfl⟩
abbrev main_while0b_call5_c_3 : Ref sig .tc := ⟨.hbm, 71, rfl⟩
abbrev main_while0b_call5_v0 : Ref sig .tc := ⟨.hbm, 72, rfl⟩
abbrev main_while0b_v49 : Ref sig .tc := ⟨.hbm, 73, rfl⟩
abbrev main_while0b_call6_c : Ref sig .tc := ⟨.hbm, 74, rfl⟩
abbrev main_while0b_call6_c_0 : Ref sig .tc := ⟨.hbm, 75, rfl⟩
abbrev main_while0b_call6_c_1 : Ref sig .tc := ⟨.hbm, 76, rfl⟩
abbrev main_while0b_call6_c_2 : Ref sig .tc := ⟨.hbm, 77, rfl⟩
abbrev main_while0b_call6_c_3 : Ref sig .tc := ⟨.hbm, 78, rfl⟩
abbrev main_while0b_call6_v0 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_v54 : Ref sig .tc := ⟨.hbm, 84, rfl⟩
abbrev main_while0b_v55 : Ref sig .tc := ⟨.hbm, 85, rfl⟩
abbrev main_while0b_v56 : Ref sig .tc := ⟨.hbm, 86, rfl⟩
abbrev main_while0b_v57 : Ref sig .tc := ⟨.hbm, 87, rfl⟩
abbrev main_while0b_v58 : Ref sig .tc := ⟨.hbm, 88, rfl⟩
abbrev main_while0b_v59 : Ref sig .tc := ⟨.hbm, 89, rfl⟩
abbrev main_while0b_v60 : Ref sig .tc := ⟨.hbm, 90, rfl⟩
abbrev main_while0b_v61 : Ref sig .tc := ⟨.hbm, 91, rfl⟩
abbrev main_while0b_v62 : Ref sig .tc := ⟨.hbm, 92, rfl⟩
abbrev main_while0b_c_4 : Ref sig .tc := ⟨.hbm, 93, rfl⟩
abbrev main_while0b_v63 : Ref sig .tc := ⟨.hbm, 94, rfl⟩
abbrev main_v46 : Ref sig .tc := ⟨.hbm, 95, rfl⟩
abbrev main_v47 : Ref sig .tc := ⟨.hbm, 96, rfl⟩

abbrev nD : Nat := 1
abbrev τ : Topo := Topo.v7x

variable {F : FTy → Type} [FloatOps F]

abbrev main_while0_count : Scf.Loop 32 := ⟨0#32, 4#32, 1#32⟩
-- ==== Proof.InProj.lean ====
/- The input projection: what the kernel leaves in its result array, index by index. Every row is scaled and shifted by
   its condition and multiplied by the weight matrix; the modulated rows are computed once for each row block and kept
   in a scratch for the 11 column blocks. -/
module

public import proofs.«01_k».proof.Defs
public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Kernel2Ideal.InProj

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The tokens, 12288 rows of 1024. -/
abbrev argX (c : Dev nD) : Vec Ideal S12288x1024 .f32 := m ((c : Thread nD τ).loc main_arg0)
/-- The scales, one row of 1024 for each condition. -/
abbrev argSc (c : Dev nD) : Vec Ideal S8x1x1024 .f32 := m ((c : Thread nD τ).loc main_arg1)
/-- The shifts, one row of 1024 for each condition. -/
abbrev argSh (c : Dev nD) : Vec Ideal S8x1x1024 .f32 := m ((c : Thread nD τ).loc main_arg2)
/-- The weights, 1024 by 9856. -/
abbrev argW (c : Dev nD) : Vec Ideal S1024x9856 .f32 := m ((c : Thread nD τ).loc main_arg3)

/-- The modulated row: `x (1 + sc) + sh`, the scale and shift taken from the row's group of 4096. -/
def hid (c : Dev nD) (r : Fin 12288) (k : Fin 1024) : EReal :=
  argX m c (ix2 r k) * (1 + argSc m c (ix3 ⟨r.val / 4096, by omega⟩ 0 k)) + argSh m c (ix3 ⟨r.val / 4096, by omega⟩ 0 k)

/-- At the first of the 11 column blocks of a row block, the body first computes the modulated rows, keeps them in its
    scratch, and multiplies them by the weight block. -/
theorem out_A (c : Dev nD) (t : Fin cfg0.N) (h0 : t.val % 11 = 0) :
    outsAt0 m c t.val t.isLt = (k0_pay2 (k0_pay1 (iblk m c 0 t) (iblk m c 1 t) (iblk m c 2 t)) (iblk m c 3 t),
      k0_pay1 (iblk m c 0 t) (iblk m c 1 t) (iblk m c 2 t)) := by
  rw [outsAt0_A m c t h0]
  frame_out

/-- At the other column blocks the body multiplies the rows its scratch holds by the weight block. -/
theorem out_B (c : Dev nD) (t : Fin cfg0.N) (h0 : ¬ t.val % 11 = 0) :
    outsAt0 m c t.val t.isLt = (k0_pay2 (outsAt0 m c (t.val - 1) (Nat.lt_of_le_of_lt (Nat.sub_le _ _) t.isLt)).2 (iblk m c 3 t),
      (outsAt0 m c (t.val - 1) (Nat.lt_of_le_of_lt (Nat.sub_le _ _) t.isLt)).2) := by
  rw [outsAt0_B m c t h0]
  frame_out
  simp only [read_unread_whole]
  rfl

/-- Which block each window reads at a grid point: the point divided by 11 is the row block, its remainder the column
    block, and two row blocks share a condition. -/
theorem idx : ∀ t : Fin grid0.N, win0_0.index t 0 = t.val / 11 ∧ win0_0.index t 1 = 0 ∧ win0_1.index t 0 = t.val / 22
    ∧ win0_1.index t 1 = 0 ∧ win0_1.index t 2 = 0 ∧ win0_2.index t 0 = t.val / 22
    ∧ win0_2.index t 1 = 0 ∧ win0_2.index t 2 = 0 ∧ win0_3.index t 0 = 0 ∧ win0_3.index t 1 = t.val % 11 := by decide +kernel

/-- The modulated rows at one index. -/
theorem pay1_at (c : Dev nD) (t : Fin cfg0.N) (y0 : Fin 2048) (y1 : Fin 1024) (r : Fin 12288) (hr : r.val = 2048 * (t.val / 11) + y0.val) :
    k0_pay1 (iblk m c 0 t) (iblk m c 1 t) (iblk m c 2 t) (ix2 y0 y1) = hid m c r y1 := by
  pointwise [k0_pay1, hid]
  blk_point [iblk, V_main_arg0, V_main_arg1, V_main_arg2, idx t]

/-- The product at one index: the sum over the 1024 inner positions. -/
theorem pay2_at (X : Vec Ideal S2048x1024 .bf16) (W : Vec Ideal S1024x896 .bf16) (j0 : Fin 2048) (j1 : Fin 896) :
    k0_pay2 X W (ix2 j0 j1) = ∑ k : Fin 1024, X (ix2 j0 k) * W (ix2 k j1) := by
  pointwise [k0_pay2]

/-- The weight block at one index is the weight matrix at the column the block starts from. -/
theorem w_at (c : Dev nD) (t : Fin cfg0.N) (y0 : Fin 1024) (y1 : Fin 896) (n : Fin 9856) (hn : n.val = 896 * (t.val % 11) + y1.val) :
    (iblk m c 3 t : Vec Ideal S1024x896 .bf16) (ix2 y0 y1) = argW m c (ix2 y0 n) := by
  rw [iblk, View.read_apply]
  entry_read
  pointwise
  blk_ext [idx t]

/-- The scratch after every point: the modulated rows of the point's row block. -/
theorem scratch_at (c : Dev nD) : ∀ (n : ℕ) (h : n < cfg0.N) (y0 : Fin 2048) (y1 : Fin 1024) (r : Fin 12288), r.val = 2048 * (n / 11) + y0.val →
    (outsAt0 m c n h).2 (ix2 y0 y1) = hid m c r y1 := by
  intro n
  induction n with
  | zero =>
    intro h y0 y1 r hr
    rw [out_A m c ⟨0, h⟩ rfl]
    exact pay1_at m c ⟨0, h⟩ y0 y1 r hr
  | succ n ih =>
    intro h y0 y1 r hr
    by_cases h0 : (n + 1) % 11 = 0
    · rw [out_A m c ⟨n + 1, h⟩ h0]
      exact pay1_at m c ⟨n + 1, h⟩ y0 y1 r hr
    · rw [out_B m c ⟨n + 1, h⟩ h0]
      exact ih _ y0 y1 r (by omega)

/-- The output block after every point. -/
theorem block_at (c : Dev nD) (t : Fin cfg0.N) (j0 : Fin 2048) (j1 : Fin 896) (r : Fin 12288) (n : Fin 9856)
    (hr : r.val = 2048 * (t.val / 11) + j0.val) (hn : n.val = 896 * (t.val % 11) + j1.val) :
    (outsAt0 m c t.val t.isLt).1 (ix2 j0 j1) = ∑ k : Fin 1024, hid m c r k * argW m c (ix2 k n) := by
  by_cases h0 : t.val % 11 = 0
  · rw [out_A m c t h0]
    refine (pay2_at _ _ j0 j1).trans (Finset.sum_congr rfl fun k _ => ?_)
    rw [pay1_at m c t j0 k r hr, w_at m c t k j1 n hn]
  · rw [out_B m c t h0]
    refine (pay2_at _ _ j0 j1).trans (Finset.sum_congr rfl fun k _ => ?_)
    rw [w_at m c t k j1 n hn, scratch_at m c _ _ j0 k r (by omega)]

/-- The array after the run: the modulated rows times the weights. -/
theorem result_at (c : Dev nD) (r : Fin 12288) (n : Fin 9856) :
    Value.G4 m c (ix2 r n) = ∑ k : Fin 1024, hid m c r k * argW m c (ix2 k n) := by
  have hN : cfg0.N = 66 := N_0
  have hp : Value.pt4Of (ix2 r n) < cfg0.N := by
    rw [hN]; show 11 * (r.val / 2048 - 0) + 1 * (n.val / 896 - 0) < 66; omega
  unfold Value.G4
  rw [dif_pos hp]
  have e := Value.outsAt0_sweep m c _ hp
  rw [← e]
  have hl : Value.loc4Of (ix2 r n) = ix2 (⟨r.val % 2048, Nat.mod_lt _ (by decide)⟩ : Fin 2048) (⟨n.val % 896, Nat.mod_lt _ (by decide)⟩ : Fin 896) := by
    funext a
    match a with
    | ⟨0, _⟩ => rfl
    | ⟨1, _⟩ => rfl
  rw [hl]
  have hv : Value.pt4Of (ix2 r n) = 11 * (r.val / 2048) + n.val / 896 := by
    show 11 * (r.val / 2048 - 0) + 1 * (n.val / 896 - 0) = _; omega
  refine block_at m c ⟨_, hp⟩ _ _ r n ?_ ?_
  · show r.val = 2048 * (Value.pt4Of (ix2 r n) / 11) + r.val % 2048
    rw [hv]; omega
  · show n.val = 896 * (Value.pt4Of (ix2 r n) % 11) + n.val % 896
    rw [hv]; omega

end Cert.Kernel2Ideal.InProj
end
-- ==== Proof.InProjClaim.lean ====
/- The input projection: the reference read at an element, and the claim that kernel and reference leave the same array. -/
module

public import proofs.«01_k».proof.Proof.InProj
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem

namespace Cert.Kernel2Ideal.InProj

/-- The reference's product read at an element: the modulated row of the group of 4096 rows it lies in, times the column. -/
theorem ref_at (x : Vec Ideal S12288x1024 .f32) (sc sh : Vec Ideal S8x1x1024 .f32) (w : Vec Ideal S1024x9856 .f32)
    (r : Fin 12288) (n : Fin 9856) :
    Cert.Reference2Ideal.Read.val_main_v10 (F := Ideal) x sc sh w (ix2 r n)
      = ∑ k : Fin 1024, (x (ix2 r k) * (1 + sc (ix3 ⟨r.val / 4096, by omega⟩ 0 k)) + sh (ix3 ⟨r.val / 4096, by omega⟩ 0 k)) * w (ix2 k n) := by
  rw [Cert.Reference2Ideal.Read.val_main_v10_apply, Cert.Reference2Ideal.Read.val_main_v9_apply]
  refine Finset.sum_congr rfl fun k _ => ?_
  rw [Cert.Reference2Ideal.Read.val_main_v8_apply, Cert.Reference2Ideal.Read.val_main_v5_apply, Cert.Reference2Ideal.Read.val_main_v0_apply,
    Cert.Reference2Ideal.Read.val_main_v4_apply, Cert.Reference2Ideal.Read.val_main_v3_apply, Cert.Reference2Ideal.Read.val_main_v2_apply,
    Cert.Reference2Ideal.Read.val_main_cst_apply, Cert.Reference2Ideal.Read.val_main_v1_apply, Cert.Reference2Ideal.Read.val_main_v7_apply,
    Cert.Reference2Ideal.Read.val_main_v6_apply]
  have h1 : (FloatOps.ofBits FTy.f32 1065353216#32 : Ideal .f32) = 1 := by pointwise
  simp only [Ideal.mulf_def, Ideal.addf_def, h1]
  blk_point

/-- The projection's kernel and the reference leave the same array: both hold the modulated rows times the weights. -/
theorem algebraic : Cert.algebraic_Kernel2Ideal_Reference2Ideal (hKernel2Ideal := Cert.Kernel2Ideal.Gen.facts) (hReference2Ideal := Cert.Reference2Ideal.Gen.facts) := by
  intro m g m' g' _ hag
  refine ⟨fun c => Value.G4 m c, Value.run m g, (θ_run _ _ _).mono (fun r h c => ⟨(h c).1.trans ?_, (h c).2⟩) (Cert.Reference2Ideal.Value.run m' g')⟩
  rw [Cert.Reference2Ideal.Read.val_main_v10_eq]
  funext i
  idx_vars i
  rw [(hag c).1, (hag c).2.1, (hag c).2.2.1, (hag c).2.2.2]
  exact (ref_at _ _ _ _ _ _).trans (result_at m c _ _).symm

end Cert.Kernel2Ideal.InProj
end
-- ==== Proof.MergeSpec.lean ====
/- The merge of the three mixers, one token at a time: every head of a mixer's output is normalised and gated, the
   three branches are projected, gated per channel and added, projected once more, added to the token, and the sum is
   layer-normalised. Constants are the values of the float words that the programs hold. -/
module

public import Idealize.ShloMosaic.PureOps.Ideal.Laws

@[expose] public section

noncomputable section

namespace Cert.Merge

open Idealize.ShloMosaic

/-- The mean over a head's 128 positions. -/
def mean128 (f : Fin 128 → EReal) : EReal := Ideal.div (∑ j : Fin 128, f j) (Ideal.ofBits FTy.f32 1124073472#32)
/-- The mean over a token's 1024 channels. -/
def mean1024 (f : Fin 1024 → EReal) : EReal := Ideal.div (∑ j : Fin 1024, f j) (Ideal.ofBits FTy.f32 1149239296#32)
/-- A head scaled to unit mean square and multiplied by the weights. -/
def norm (w f : Fin 128 → EReal) (j : Fin 128) : EReal :=
  f j * Ideal.rsqrt (mean128 (fun x => f x * f x) + Ideal.ofBits FTy.f32 897988541#32) * w j
/-- A head with its mean taken off. -/
def center (f : Fin 128 → EReal) (j : Fin 128) : EReal := f j - mean128 f
/-- How the mixers' heads are normalised: the second one's mean is taken off first. -/
def headNorm : Fin 3 → (Fin 128 → EReal) → (Fin 128 → EReal) → Fin 128 → EReal
  | 0, w, f => norm w f
  | 1, w, f => norm w (center f)
  | 2, w, f => norm w f
/-- The place of a head's position among the 512. -/
def at512 (h : Fin 4) (j : Fin 128) : Fin 512 := ⟨128 * h.val + j.val, by omega⟩
/-- The head that one of the 512 positions lies in. -/
def hd (k : Fin 512) : Fin 4 := ⟨k.val / 128, by omega⟩
/-- The position inside the head. -/
def ft (k : Fin 512) : Fin 128 := ⟨k.val % 128, by omega⟩
/-- A mixer's output, normalised head by head and gated. -/
def gated (n : Fin 3) (w : Fin 128 → EReal) (o z : Fin 512 → EReal) (k : Fin 512) : EReal :=
  headNorm n w (fun j => o (at512 (hd k) j)) (ft k) * (z k * Ideal.logistic (z k))
/-- A branch: the gated output projected to the 1024 channels, each with its own gate. -/
def branch (n : Fin 3) (w : Fin 128 → EReal) (o z : Fin 512 → EReal) (W : Fin 512 → Fin 1024 → EReal) (g : Fin 1024 → EReal)
    (c : Fin 1024) : EReal := Ideal.logistic (g c) * ∑ k : Fin 512, gated n w o z k * W k c
/-- The token plus the projected mix. -/
def residual (x g1 mixed : Fin 1024 → EReal) (W : Fin 1024 → Fin 1024 → EReal) (c : Fin 1024) : EReal :=
  Ideal.ofBits FTy.f32 1068827891#32 * x c + g1 c * ∑ k : Fin 1024, mixed k * W k c
/-- The layer normalisation. -/
def layerNorm (g b y : Fin 1024 → EReal) (c : Fin 1024) : EReal :=
  (y c - mean1024 y) * Ideal.rsqrt (mean1024 (fun k => (y k - mean1024 y) * (y k - mean1024 y)) + Ideal.ofBits FTy.f32 925353388#32) * g c + b c

/-- The merge of one token. -/
def merged (o z : Fin 3 → Fin 512 → EReal) (w : Fin 3 → Fin 128 → EReal) (W : Fin 3 → Fin 512 → Fin 1024 → EReal)
    (g : Fin 3 → Fin 1024 → EReal) (Wo : Fin 1024 → Fin 1024 → EReal) (x g1 lg lb : Fin 1024 → EReal) : Fin 1024 → EReal :=
  layerNorm lg lb (residual x g1 (fun k => branch 0 (w 0) (o 0) (z 0) (W 0) (g 0) k + branch 1 (w 1) (o 1) (z 1) (W 1) (g 1) k
    + branch 2 (w 2) (o 2) (z 2) (W 2) (g 2) k) Wo)

/-- The three mixers' outputs at a token: the two directions of each added. -/
def mixerOut (df db rf rb hf hb : Fin 12288 → Fin 512 → EReal) (r : Fin 12288) : Fin 3 → Fin 512 → EReal
  | 0, k => df r k + db r k
  | 1, k => rf r k + rb r k
  | 2, k => hf r k + hb r k
/-- The column of the input projection that a mixer's output gate starts from. -/
def gateStart : Fin 3 → Fin 9345
  | 0 => 4608
  | 1 => 6656
  | 2 => 9216
/-- The column of a mixer's output gate. -/
def zcol (n : Fin 3) (k : Fin 512) : Fin 9856 := ⟨(gateStart n).val + k.val, by omega⟩
/-- The column of a branch's channel gate. -/
def gcol (n : Fin 3) (c : Fin 1024) : Fin 9856 := ⟨1024 * n.val + c.val, by omega⟩
/-- A token's group of 4096. -/
def grp (r : Fin 12288) : Fin 8 := ⟨r.val / 4096, by omega⟩

/-- The merge of one token, from the whole arrays. -/
def token (df db rf rb hf hb : Fin 12288 → Fin 512 → EReal) (proj : Fin 12288 → Fin 9856 → EReal) (x : Fin 12288 → Fin 1024 → EReal)
    (g1 : Fin 8 → Fin 1024 → EReal) (w : Fin 3 → Fin 128 → EReal) (W : Fin 3 → Fin 512 → Fin 1024 → EReal) (Wo : Fin 1024 → Fin 1024 → EReal)
    (lg lb : Fin 2 → Fin 1024 → EReal) (r : Fin 12288) : Fin 1024 → EReal :=
  merged (mixerOut df db rf rb hf hb r) (fun n k => proj r (zcol n k)) w W (fun n c => proj r (gcol n c)) Wo (x r) (g1 (grp r)) (lg 0) (lb 0)

/-- A position is where its head and its place in the head put it. -/
theorem at512_hd_ft (k : Fin 512) : at512 (hd k) (ft k) = k := Fin.ext (Nat.div_add_mod k.val 128)

end Cert.Merge
end
-- ==== Proof.MergeBody.lean ====
/- The merge: the kernel's arithmetic for one block of 256 tokens, read at an index. -/
module

public import proofs.«01_k».proof.Defs
public import proofs.«01_k».proof.Proof.MergeSpec
public import proofs.«01_k».proof.Proof.Gen.Kernel3Ideal.Value
public import Idealize.ShloMosaic.Lib.Pipeline.ValueKit
public import Idealize.ShloMosaic.Lib.Pipeline.ReadBack

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Cert.Merge

/-- A head's columns of a block. -/
def headOf (O : FVec Ideal S256x512 .f32) : Fin 4 → FVec Ideal S256x128 .f32
  | 0 => extractStridedSlice S256x128 ![0, 0] O slices_S256x512_o0_0_S256x128
  | 1 => extractStridedSlice S256x128 ![0, 128] O slices_S256x512_o0_128_S256x128
  | 2 => extractStridedSlice S256x128 ![0, 256] O slices_S256x512_o0_256_S256x128
  | 3 => extractStridedSlice S256x128 ![0, 384] O slices_S256x512_o0_384_S256x128
/-- A mixer's row of the normalisation weights. -/
def rowOf (w : Vec Ideal S3x128 .f32) : Fin 3 → FVec Ideal S1x128 .f32
  | 0 => extractStridedSlice S1x128 ![0, 0] w slices_S3x128_o0_0_S1x128
  | 1 => extractStridedSlice S1x128 ![1, 0] w slices_S3x128_o1_0_S1x128
  | 2 => extractStridedSlice S1x128 ![2, 0] w slices_S3x128_o2_0_S1x128
/-- The row means of a head's block, as a column. -/
def meanV (X : FVec Ideal S256x128 .f32) : FVec Ideal S256x1 .f32 :=
  divf (shapeCast S256x1 (multiReduction .add [1] S256 X 0x00000000#32 reduces_S256x128_S256 (.inl rfl) rfl) shapeCasts_S256_S256x1)
    (broadcast S256x1 (Scalar.ofBits .f32 0x43000000#32))
/-- A head's block scaled row by row to unit mean square and multiplied by the weights. -/
def normV (w : FVec Ideal S1x128 .f32) (X : FVec Ideal S256x128 .f32) : FVec Ideal S256x128 .f32 :=
  mulf (mulf X (broadcastTo S256x128 (rsqrt (addf (meanV (mulf X X)) (broadcast S256x1 (Scalar.ofBits .f32 0x358637BD#32)))) broadcasts_S256x1_S256x128))
    (broadcastTo S256x128 w broadcasts_S1x128_S256x128)
/-- A head's block with its row means taken off. -/
def centerV (X : FVec Ideal S256x128 .f32) : FVec Ideal S256x128 .f32 := subf X (broadcastTo S256x128 (meanV X) broadcasts_S256x1_S256x128)
/-- The normalisation of a mixer's heads. -/
def headNormV : Fin 3 → FVec Ideal S1x128 .f32 → FVec Ideal S256x128 .f32 → FVec Ideal S256x128 .f32
  | 0, w, X => normV w X
  | 1, w, X => normV w (centerV X)
  | 2, w, X => normV w X
/-- Four heads side by side. -/
def sideBySide (A : Fin 4 → FVec Ideal S256x128 .f32) : FVec Ideal S256x512 .f32 :=
  concatenate S256x512 1 [⟨S256x128, A 0⟩, ⟨S256x128, A 1⟩, ⟨S256x128, A 2⟩, ⟨S256x128, A 3⟩] concatenates_S256x128_S256x128_S256x128_S256x128_S256x512_d1
/-- A branch of the block. -/
def branchV (n : Fin 3) (w : Vec Ideal S3x128 .f32) (O : FVec Ideal S256x512 .f32) (z : Vec Ideal S256x512 .f32) (W : Vec Ideal S1x512x1024 .bf16)
    (g : Vec Ideal S256x1024 .f32) : FVec Ideal S256x1024 .f32 :=
  mulf (logistic g) (matmul dot_S256x512_S512x1024_S256x1024_1_0_0_1_n_n none
    (truncf .bf16 (mulf (sideBySide fun h => headNormV n (rowOf w n) (headOf O h)) (mulf z (logistic z))) bitsLt_bf16_f32)
    (shapeCast S512x1024 W shapeCasts_S1x512x1024_S512x1024 : FVec Ideal S512x1024 .bf16) (constant S256x1024 .f32 0x00000000#32))

/-- A head's columns at an index. -/
theorem headOf_at (O : FVec Ideal S256x512 .f32) (i : Fin 256) (j : Fin 128) : ∀ h : Fin 4, headOf O h (ix2 i j) = O (ix2 i (at512 h j))
  | 0 => by pointwise [headOf]; exact congrArg (fun k => O (ix2 i k)) (Fin.ext (Nat.zero_add j.val).symm)
  | 1 => by pointwise [headOf]; rfl
  | 2 => by pointwise [headOf]; rfl
  | 3 => by pointwise [headOf]; rfl

/-- A row of the weights at an index. -/
theorem rowOf_at (w : Vec Ideal S3x128 .f32) (j : Fin 128) : ∀ n : Fin 3, rowOf w n (ix2 0 j) = w (ix2 n j)
  | 0 => by pointwise [rowOf]
  | 1 => by pointwise [rowOf]
  | 2 => by pointwise [rowOf]

/-- The normalised block at an index. -/
theorem normV_at (w : FVec Ideal S1x128 .f32) (X : FVec Ideal S256x128 .f32) (i : Fin 256) (j : Fin 128) :
    normV w X (ix2 i j) = norm (fun x => w (ix2 0 x)) (fun x => X (ix2 i x)) j := by
  pointwise [normV, meanV]
  rfl

/-- The centred block at an index. -/
theorem centerV_at (X : FVec Ideal S256x128 .f32) (i : Fin 256) (j : Fin 128) : centerV X (ix2 i j) = center (fun x => X (ix2 i x)) j := by
  pointwise [centerV, meanV]
  rfl

/-- The normalisation of a mixer's heads at an index. -/
theorem headNormV_at (w : FVec Ideal S1x128 .f32) (X : FVec Ideal S256x128 .f32) (i : Fin 256) (j : Fin 128) :
    ∀ n : Fin 3, headNormV n w X (ix2 i j) = headNorm n (fun x => w (ix2 0 x)) (fun x => X (ix2 i x)) j
  | 0 => normV_at w X i j
  | 1 => (normV_at w (centerV X) i j).trans (congrArg (fun f => norm (fun x => w (ix2 0 x)) f j) (funext fun x => centerV_at X i x))
  | 2 => normV_at w X i j

/-- Heads side by side, at an index. -/
theorem sideBySide_at (A : Fin 4 → FVec Ideal S256x128 .f32) (i : Fin 256) (j : Fin 128) : ∀ h : Fin 4, sideBySide A (ix2 i (at512 h j)) = A h (ix2 i j)
  | 0 => by pointwise [sideBySide, at512]
  | 1 => by pointwise [sideBySide, at512]
  | 2 => by
    pointwise [sideBySide, at512]
    rw [dif_neg (by omega), dif_neg (by omega), dif_pos (by omega)]
    exact congrArg (fun k => A 2 (ix2 i k)) (Fin.ext (by show 256 + j.val - 128 - 128 = j.val; omega))
  | 3 => by
    pointwise [sideBySide, at512]
    rw [dif_neg (by omega), dif_neg (by omega), dif_neg (by omega)]
    exact congrArg (fun k => A 3 (ix2 i k)) (Fin.ext (by show 384 + j.val - 128 - 128 - 128 = j.val; omega))

/-- A branch of the block at an index. -/
theorem branchV_at (n : Fin 3) (w O z W g) (i : Fin 256) (c : Fin 1024) : branchV n w O z W g (ix2 i c)
    = branch n (fun x => w (ix2 n x)) (fun k => O (ix2 i k)) (fun k => z (ix2 i k)) (fun k c => W (ix3 0 k c)) (fun c => g (ix2 i c)) c := by
  pointwise [branchV]
  refine congrArg (Ideal.logistic (g (ix2 i c)) * ·) (Finset.sum_congr rfl fun k _ => congrArg (· * W (ix3 0 k c)) ?_)
  refine congrArg (· * (z (ix2 i k) * Ideal.logistic (z (ix2 i k)))) ?_
  conv_lhs => rw [← at512_hd_ft k]
  rw [sideBySide_at, headNormV_at]
  simp only [headOf_at, rowOf_at]

/-- The token plus the projected mix, for the block. -/
def residualV (M : FVec Ideal S256x1024 .f32) (Wo : Vec Ideal S1024x1024 .bf16) (x : Vec Ideal S256x1024 .f32) (g1 : Vec Ideal S1x1x1024 .f32) :
    FVec Ideal S256x1024 .f32 :=
  addf (mulf (broadcast S256x1024 (Scalar.ofBits .f32 0x3FB504F3#32)) x)
    (mulf (broadcastTo S256x1024 (shapeCast S1x1024 g1 shapeCasts_S1x1x1024_S1x1024) broadcasts_S1x1024_S256x1024)
      (matmul dot_S256x1024_S1024x1024_S256x1024_1_0_0_1_n_n none (truncf .bf16 M bitsLt_bf16_f32)
        (shapeCast S1024x1024 Wo shapeCasts_S1024x1024_S1024x1024 : FVec Ideal S1024x1024 .bf16) (constant S256x1024 .f32 0x00000000#32)))
/-- The row means over the channels, as a column. -/
def meanC (X : FVec Ideal S256x1024 .f32) : FVec Ideal S256x1 .f32 :=
  divf (shapeCast S256x1 (multiReduction .add [1] S256 X 0x00000000#32 reduces_S256x1024_S256 (.inl rfl) rfl) shapeCasts_S256_S256x1)
    (broadcast S256x1 (Scalar.ofBits .f32 0x44800000#32))

/-- The token plus the projected mix at an index. -/
theorem residualV_at (M Wo x g1) (i : Fin 256) (c : Fin 1024) : residualV M Wo x g1 (ix2 i c)
    = residual (fun c => x (ix2 i c)) (fun c => g1 (ix3 0 0 c)) (fun k => M (ix2 i k)) (fun k c => Wo (ix2 k c)) c := by
  pointwise [residualV]
  rfl

/-- The layer normalisation of the block at an index. -/
theorem layerNormV_at (g b : Vec Ideal S1x1024 .f32) (Y : FVec Ideal S256x1024 .f32) (i : Fin 256) (c : Fin 1024) :
    k0_pay1 (F := Ideal) (k0_pay24 g) (k0_pay25 b) (subf Y (broadcastTo S256x1024 (meanC Y) broadcasts_S256x1_S256x1024)) (ix2 i c)
      = layerNorm (fun c => g (ix2 0 c)) (fun c => b (ix2 0 c)) (fun c => Y (ix2 i c)) c := by
  pointwise [k0_pay1, k0_pay24, k0_pay25, meanC]
  rfl

end Cert.Kernel3Ideal.Merge
end
-- ==== Proof.MergeArray.lean ====
/- The merge: what the kernel leaves in its result array, index by index. -/
module

public import proofs.«01_k».proof.Proof.MergeBody

@[expose] public section

set_option maxRecDepth 16384

noncomputable section

namespace Cert.Kernel3Ideal.Merge

open Cert.Kernel3Ideal Cert.Kernel3Ideal.Gen Idealize.ShloMosaic Idealize.ShloMosaic.TcCoe Idealize.SL.Sem
open Idealize.ShloMosaic.Pipeline (Dat)
open Cert.Merge

variable (m : (ℓ : Loc nD τ sig) → Buf (Elt Ideal) ℓ)

/-- A mixer's slab of the branch weights. -/
abbrev slab (W : Vec Ideal S3x512x1024 .bf16) : Fin 3 → Vec Ideal S1x512x1024 .bf16
  | 0 => View.ld W (Rect.unit (s := S3x512x1024) ![0, 0, 0] ![1, 512, 1024] inb_S3x512x1024_S1x512x1024_0_0_0)
  | 1 => View.ld W (Rect.unit (s := S3x512x1024) ![1, 0, 0] ![1, 512, 1024] inb_S3x512x1024_S1x512x1024_1_0_0)
  | 2 => View.ld W (Rect.unit (s := S3x512x1024) ![2, 0, 0] ![1, 512, 1024] inb_S3x512x1024_S1x512x1024_2_0_0)
/-- A mixer's columns of the gates. -/
abbrev gateCols (G : Vec Ideal S256x3072 .f32) : Fin 3 → Vec Ideal S256x1024 .f32
  | 0 => View.ld G (Rect.unit (s := S256x3072) ![0, 0] ![256, 1024] inb_S256x3072_S256x1024_0_0)
  | 1 => View.ld G (Rect.unit (s := S256x3072) ![0, 1024] ![256, 1024] inb_S256x3072_S256x1024_0_1024)
  | 2 => View.ld G (Rect.unit (s := S256x3072) ![0, 2048] ![256, 1024] inb_S256x3072_S256x1024_0_2048)

/-- A mixer's slab at an index. -/
theorem slab_at (W : Vec Ideal S3x512x1024 .bf16) (k : Fin 512) (c : Fin 1024) : ∀ n : Fin 3, slab W n (ix3 0 k c) = W (ix3 n k c)
  | 0 => View.ld_unit_apply_of _ _ _ _ _ (ix3 0 k c) fun
    | ⟨0, _⟩ => rfl
    | ⟨1, _⟩ => (Nat.zero_add _).symm
    | ⟨2, _⟩ => (Nat.zero_add _).symm
  | 1 => View.ld_unit_apply_of _ _ _ _ _ (ix3 1 k c) fun
    | ⟨0, _⟩ => rfl
    | ⟨1, _⟩ => (Nat.zero_add _).symm
    | ⟨2, _⟩ => (Nat.zero_add _).symm
  | 2 => View.ld_unit_apply_of _ _ _ _ _ (ix3 2 k c) fun
    | ⟨0, _⟩ => rfl
    | ⟨1, _⟩ => (Nat.zero_add _).symm
    | ⟨2, _⟩ => (Nat.zero_add _).symm

/-- A mixer's gate columns at an index. -/
theorem gateCols_at (G : Vec Ideal S256x3072 .f32) (i : Fin 256) (c : Fin 1024) :
    ∀ n : Fin 3, gateCols G n (ix2 i c) = G (ix2 i ⟨1024 * n.val + c.val, by omega⟩)
  | 0 => View.ld_unit_apply_of _ _ _ _ _ (ix2 i _) fun
    | ⟨0, _⟩ => (Nat.zero_add _).symm
    | ⟨1, _⟩ => rfl
  | 1 => View.ld_unit_apply_of _ _ _ _ _ (ix2 i _) fun
    | ⟨0, _⟩ => (Nat.zero_add _).symm
    | ⟨1, _⟩ => rfl
  | 2 => View.ld_unit_apply_of _ _ _ _ _ (ix2 i _) fun
    | ⟨0, _⟩ => (Nat.zero_add _).symm
    | ⟨1, _⟩ => rfl

/-- The block of tokens plus their mix at a grid point. -/
abbrev resAt (c : Dev nD) (t : Fin cfg0.N) : FVec Ideal S256x1024 .f32 :=
  residualV (addf (addf (branchV 0 (iblk m c 12 t) (k0_pay2 (iblk m c 0 t) (iblk m c 1 t)) (X0_6 m c t) (slab (iblk m c 13 t) 0) (gateCols (X0_9 m c t) 0))
      (branchV 1 (iblk m c 12 t) (k0_pay8 (iblk m c 2 t) (iblk m c 3 t)) (X0_7 m c t) (slab (iblk m c 13 t) 1) (gateCols (X0_9 m c t) 1)))
      (branchV 2 (iblk m c 12 t) (k0_pay16 (iblk m c 4 t) (iblk m c 5 t)) (X0_8 m c t) (slab (iblk m c 13 t) 2) (gateCols (X0_9 m c t) 2)))
    (iblk m c 14 t) (iblk m c 10 t) (iblk m c 11 t)

/-- What a grid point leaves in its output block. -/
theorem out_A (c : Dev nD) (t : Fin cfg0.N) : outsAt0 m c t = k0_pay1 (k0_pay24 (iblk m c 15 t)) (k0_pay25 (iblk m c 16 t))
    (subf (resAt m c t) (broadcastTo S256x1024 (meanC (resAt m c t)) broadcasts_S256x1_S256x1024)) := by
  unfold outsAt0
  frame_out
  rfl

/-- The delta rule's outputs, first direction. -/
abbrev aDf (c : Dev nD) (r : Fin 12288) (k : Fin 512) : EReal := (m ((c : Thread nD τ).loc main_arg0) : Vec Ideal S12288x512 .f32) (ix2 r k)
/-- The delta rule's outputs, second direction. -/
abbrev aDb (c : Dev nD) (r : Fin 12288) (k : Fin 512) : EReal := (m ((c : Thread nD τ).loc main_arg1) : Vec Ideal S12288x512 .f32) (ix2 r k)
/-- The retention's outputs, first direction. -/
abbrev aRf (c : Dev nD) (r : Fin 12288) (k : Fin 512) : EReal := (m ((c : Thread nD τ).loc main_arg2) : Vec Ideal S12288x512 .f32) (ix2 r k)
/-- The retention's outputs, second direction. -/
abbrev aRb (c : Dev nD) (r : Fin 12288) (k : Fin 512) : EReal := (m ((c : Thread nD τ).loc main_arg3) : Vec Ideal S12288x512 .f32) (ix2 r k)
/-- The gated recurrence's outputs, first direction. -/
abbrev aHf (c : Dev nD) (r : Fin 12288) (k : Fin 512) : EReal := (m ((c : Thread nD τ).loc main_arg4) : Vec Ideal S12288x512 .f32) (ix2 r k)
/-- The gated recurrence's outputs, second direction. -/
abbrev aHb (c : Dev nD) (r : Fin 12288) (k : Fin 512) : EReal := (m ((c : Thread nD τ).loc main_arg5) : Vec Ideal S12288x512 .f32) (ix2 r k)
/-- The input projection, which holds the gates. -/
abbrev aP (c : Dev nD) (r : Fin 12288) (k : Fin 9856) : EReal := (m ((c : Thread nD τ).loc main_arg6) : Vec Ideal S12288x9856 .f32) (ix2 r k)
/-- The tokens. -/
abbrev aX (c : Dev nD) (r : Fin 12288) (k : Fin 1024) : EReal := (m ((c : Thread nD τ).loc main_arg7) : Vec Ideal S12288x1024 .f32) (ix2 r k)
/-- The gates of the mix, one row for each condition. -/
abbrev aG (c : Dev nD) (b : Fin 8) (k : Fin 1024) : EReal := (m ((c : Thread nD τ).loc main_arg8) : Vec Ideal S8x1x1024 .f32) (ix3 b 0 k)
/-- The weights of the head norms. -/
abbrev aN (c : Dev nD) (n : Fin 3) (j : Fin 128) : EReal := (m ((c : Thread nD τ).loc main_arg9) : Vec Ideal S3x128 .f32) (ix2 n j)
/-- The branch weights. -/
abbrev aW (c : Dev nD) (n : Fin 3) (k : Fin 512) (j : Fin 1024) : EReal := (m ((c : Thread nD τ).loc main_arg10) : Vec Ideal S3x512x1024 .f32) (ix3 n k j)
/-- The output weights. -/
abbrev aWo (c : Dev nD) (k j : Fin 1024) : EReal := (m ((c : Thread nD τ).loc main_arg11) : Vec Ideal S1024x1024 .f32) (ix2 k j)
/-- The layer norm's weights. -/
abbrev aLg (c : Dev nD) (b : Fin 2) (k : Fin 1024) : EReal := (m ((c : Thread nD τ).loc main_arg12) : Vec Ideal S2x1024 .f32) (ix2 b k)
/-- The layer norm's offsets. -/
abbrev aLb (c : Dev nD) (b : Fin 2) (k : Fin 1024) : EReal := (m ((c : Thread nD τ).loc main_arg13) : Vec Ideal S2x1024 .f32) (ix2 b k)

/-- Which block each window is on at a grid point. -/
theorem idx : ∀ t : Fin grid0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0
    ∧ win0_6.index t 0 = t.val ∧ win0_6.index t 1 = 9 ∧ win0_7.index t 0 = t.val ∧ win0_7.index t 1 = 13
    ∧ win0_8.index t 0 = t.val ∧ win0_8.index t 1 = 18 ∧ win0_9.index t 0 = t.val ∧ win0_9.index t 1 = 0
    ∧ win0_10.index t 0 = t.val ∧ win0_10.index t 1 = 0 ∧ win0_17.index t 0 = t.val ∧ win0_17.index t 1 = 0 := by
  decide +kernel
/-- Which block of the per-condition and whole arrays is read at a grid point. -/
theorem idx' : ∀ t : Fin grid0.N, win0_11.index t 0 = t.val / 16 ∧ win0_11.index t 1 = 0 ∧ win0_11.index t 2 = 0
    ∧ win0_12.index t 0 = 0 ∧ win0_12.index t 1 = 0 ∧ win0_13.index t 0 = 0 ∧ win0_13.index t 1 = 0 ∧ win0_13.index t 2 = 0
    ∧ win0_14.index t 0 = 0 ∧ win0_14.index t 1 = 0 ∧ win0_15.index t 0 = 0 ∧ win0_15.index t 1 = 0
    ∧ win0_16.index t 0 = 0 ∧ win0_16.index t 1 = 0 := by
  decide +kernel

section
variable (c : Dev nD) (t : Fin cfg0.N) (i : Fin 256) (r : Fin 12288) (hr : r.val = 256 * t.val + i.val)
include hr

/-- The block of the delta rule's outputs, first direction. -/
theorem o0_at (k : Fin 512) : (iblk m c 0 t : Vec Ideal S256x512 .f32) (ix2 i k) = aDf m c r k := by
  blk_point [iblk, V_main_arg0, idx t]
/-- The block of the delta rule's outputs, second direction. -/
theorem o1_at (k : Fin 512) : (iblk m c 1 t : Vec Ideal S256x512 .f32) (ix2 i k) = aDb m c r k := by
  blk_point [iblk, V_main_arg1, idx t]
/-- The block of the retention's outputs, first direction. -/
theorem o2_at (k : Fin 512) : (iblk m c 2 t : Vec Ideal S256x512 .f32) (ix2 i k) = aRf m c r k := by
  blk_point [iblk, V_main_arg2, idx t]
/-- The block of the retention's outputs, second direction. -/
theorem o3_at (k : Fin 512) : (iblk m c 3 t : Vec Ideal S256x512 .f32) (ix2 i k) = aRb m c r k := by
  blk_point [iblk, V_main_arg3, idx t]
/-- The block of the gated recurrence's outputs, first direction. -/
theorem o4_at (k : Fin 512) : (iblk m c 4 t : Vec Ideal S256x512 .f32) (ix2 i k) = aHf m c r k := by
  blk_point [iblk, V_main_arg4, idx t]
/-- The block of the gated recurrence's outputs, second direction. -/
theorem o5_at (k : Fin 512) : (iblk m c 5 t : Vec Ideal S256x512 .f32) (ix2 i k) = aHb m c r k := by
  blk_point [iblk, V_main_arg5, idx t]
/-- The block of the first output gate. -/
theorem z0_at (k : Fin 512) : (X0_6 m c t : Vec Ideal S256x512 .f32) (ix2 i k) = aP m c r (zcol 0 k) := by
  unfold X0_6 Pipeline.Window.fill
  rw [dif_pos (moved0_6 t _)]
  have hz : (zcol 0 k).val = 4608 + k.val := rfl
  blk_point [iblk, V_main_arg6, idx t]
/-- The block of the second output gate. -/
theorem z1_at (k : Fin 512) : (X0_7 m c t : Vec Ideal S256x512 .f32) (ix2 i k) = aP m c r (zcol 1 k) := by
  unfold X0_7 Pipeline.Window.fill
  rw [dif_pos (moved0_7 t _)]
  have hz : (zcol 1 k).val = 6656 + k.val := rfl
  blk_point [iblk, V_main_arg6, idx t]
/-- The block of the third output gate. -/
theorem z2_at (k : Fin 512) : (X0_8 m c t : Vec Ideal S256x512 .f32) (ix2 i k) = aP m c r (zcol 2 k) := by
  unfold X0_8 Pipeline.Window.fill
  rw [dif_pos (moved0_8 t _)]
  have hz : (zcol 2 k).val = 9216 + k.val := rfl
  blk_point [iblk, V_main_arg6, idx t]
/-- The block of the channel gates. -/
theorem g_at (n : Fin 3) (k : Fin 1024) : gateCols (X0_9 m c t) n (ix2 i k) = aP m c r (Cert.Merge.gcol n k) := by
  rw [gateCols_at]
  unfold X0_9 Pipeline.Window.fill
  rw [dif_pos (moved0_9 t _)]
  have hz : (Cert.Merge.gcol n k).val = 1024 * n.val + k.val := rfl
  blk_point [iblk, V_main_arg6, idx t]
/-- The block of tokens. -/
theorem x_at (k : Fin 1024) : (iblk m c 10 t : Vec Ideal S256x1024 .f32) (ix2 i k) = aX m c r k := by
  blk_point [iblk, V_main_arg7, idx t]
/-- The gate of the mix. -/
theorem g1_at (k : Fin 1024) : (iblk m c 11 t : Vec Ideal S1x1x1024 .f32) (ix3 0 0 k) = aG m c (grp r) k := by
  have hz : (grp r).val = r.val / 4096 := rfl
  blk_point [iblk, V_main_arg8, idx' t]
end

/-- The weights of the head norms. -/
theorem n_at (c : Dev nD) (t : Fin cfg0.N) (n : Fin 3) (j : Fin 128) : (iblk m c 12 t : Vec Ideal S3x128 .f32) (ix2 n j) = aN m c n j := by
  blk_point [iblk, V_main_arg9, idx' t]
/-- The branch weights. -/
theorem w_at (c : Dev nD) (t : Fin cfg0.N) (n : Fin 3) (k : Fin 512) (j : Fin 1024) : slab (iblk m c 13 t) n (ix3 0 k j) = aW m c n k j := by
  rw [slab_at, iblk, View.read_apply]
  entry_read
  pointwise
  blk_ext [idx' t]
/-- The output weights. -/
theorem wo_at (c : Dev nD) (t : Fin cfg0.N) (k j : Fin 1024) : (iblk m c 14 t : Vec Ideal S1024x1024 .bf16) (ix2 k j) = aWo m c k j := by
  rw [iblk, View.read_apply]
  entry_read
  pointwise
  blk_ext [idx' t]
/-- The layer norm's weights. -/
theorem lg_at (c : Dev nD) (t : Fin cfg0.N) (j : Fin 1024) : (iblk m c 15 t : Vec Ideal S1x1024 .f32) (ix2 0 j) = aLg m c 0 j := by
  rw [iblk, View.read_apply]
  entry_read
  pointwise
  blk_ext [idx' t]
/-- The layer norm's offsets. -/
theorem lb_at (c : Dev nD) (t : Fin cfg0.N) (j : Fin 1024) : (iblk m c 16 t : Vec Ideal S1x1024 .f32) (ix2 0 j) = aLb m c 0 j := by
  rw [iblk, View.read_apply]
  entry_read
  pointwise
  blk_ext [idx' t]

/-- The merge of a token, from the arguments. -/
abbrev tokenOf (c : Dev nD) (r : Fin 12288) : Fin 1024 → EReal :=
  token (aDf m c) (aDb m c) (aRf m c) (aRb m c) (aHf m c) (aHb m c) (aP m c) (aX m c) (aG m c) (aN m c) (aW m c) (aWo m c) (aLg m c) (aLb m c) r
/-- The result array: every token's merge. -/
def result (c : Dev nD) : Vec Ideal S12288x1024 .f32 := fun i => tokenOf m c (i (0 : Fin 2)) (i (1 : Fin 2))

/-- The token's row of a block of tokens plus their mix. -/
theorem res_at (c : Dev nD) (t : Fin cfg0.N) (i : Fin 256) (r : Fin 12288) (hr : r.val = 256 * t.val + i.val) (j : Fin 1024) :
    resAt m c t (ix2 i j) = residual (aX m c r) (aG m c (grp r)) (fun k =>
      branch 0 (aN m c 0) (mixerOut (aDf m c) (aDb m c) (aRf m c) (aRb m c) (aHf m c) (aHb m c) r 0) (fun k => aP m c r (zcol 0 k)) (aW m c 0) (fun j => aP m c r (Cert.Merge.gcol 0 j)) k
      + branch 1 (aN m c 1) (mixerOut (aDf m c) (aDb m c) (aRf m c) (aRb m c) (aHf m c) (aHb m c) r 1) (fun k => aP m c r (zcol 1 k)) (aW m c 1) (fun j => aP m c r (Cert.Merge.gcol 1 j)) k
      + branch 2 (aN m c 2) (mixerOut (aDf m c) (aDb m c) (aRf m c) (aRb m c) (aHf m c) (aHb m c) r 2) (fun k => aP m c r (zcol 2 k)) (aW m c 2) (fun j => aP m c r (Cert.Merge.gcol 2 j)) k)
      (aWo m c) j := by
  have eM (k : Fin 1024) : (addf (addf (branchV 0 (iblk m c 12 t) (k0_pay2 (iblk m c 0 t) (iblk m c 1 t)) (X0_6 m c t) (slab (iblk m c 13 t) 0) (gateCols (X0_9 m c t) 0))
      (branchV 1 (iblk m c 12 t) (k0_pay8 (iblk m c 2 t) (iblk m c 3 t)) (X0_7 m c t) (slab (iblk m c 13 t) 1) (gateCols (X0_9 m c t) 1)))
      (branchV 2 (iblk m c 12 t) (k0_pay16 (iblk m c 4 t) (iblk m c 5 t)) (X0_8 m c t) (slab (iblk m c 13 t) 2) (gateCols (X0_9 m c t) 2)) : FVec Ideal S256x1024 .f32) (ix2 i k)
      = branch 0 (aN m c 0) (mixerOut (aDf m c) (aDb m c) (aRf m c) (aRb m c) (aHf m c) (aHb m c) r 0) (fun k => aP m c r (zcol 0 k)) (aW m c 0) (fun j => aP m c r (Cert.Merge.gcol 0 j)) k
      + branch 1 (aN m c 1) (mixerOut (aDf m c) (aDb m c) (aRf m c) (aRb m c) (aHf m c) (aHb m c) r 1) (fun k => aP m c r (zcol 1 k)) (aW m c 1) (fun j => aP m c r (Cert.Merge.gcol 1 j)) k
      + branch 2 (aN m c 2) (mixerOut (aDf m c) (aDb m c) (aRf m c) (aRb m c) (aHf m c) (aHb m c) r 2) (fun k => aP m c r (zcol 2 k)) (aW m c 2) (fun j => aP m c r (Cert.Merge.gcol 2 j)) k := by
    rw [addf_apply, addf_apply, branchV_at, branchV_at, branchV_at]
    have e0 : (fun k => k0_pay2 (F := Ideal) (iblk m c 0 t) (iblk m c 1 t) (ix2 i k)) = mixerOut (aDf m c) (aDb m c) (aRf m c) (aRb m c) (aHf m c) (aHb m c) r 0 :=
      funext fun k => congrArg₂ (· + ·) (o0_at m c t i r hr k) (o1_at m c t i r hr k)
    have e1 : (fun k => k0_pay8 (F := Ideal) (iblk m c 2 t) (iblk m c 3 t) (ix2 i k)) = mixerOut (aDf m c) (aDb m c) (aRf m c) (aRb m c) (aHf m c) (aHb m c) r 1 :=
      funext fun k => congrArg₂ (· + ·) (o2_at m c t i r hr k) (o3_at m c t i r hr k)
    have e2 : (fun k => k0_pay16 (F := Ideal) (iblk m c 4 t) (iblk m c 5 t) (ix2 i k)) = mixerOut (aDf m c) (aDb m c) (aRf m c) (aRb m c) (aHf m c) (aHb m c) r 2 :=
      funext fun k => congrArg₂ (· + ·) (o4_at m c t i r hr k) (o5_at m c t i r hr k)
    rw [e0, e1, e2, funext (z0_at m c t i r hr), funext (z1_at m c t i r hr), funext (z2_at m c t i r hr)]
    have eg (n : Fin 3) : (fun j => gateCols (X0_9 m c t) n (ix2 i j)) = fun j => aP m c r (Cert.Merge.gcol n j) := funext (g_at m c t i r hr n)
    have ew (n : Fin 3) : (fun k j => slab (iblk m c 13 t) n (ix3 0 k j)) = aW m c n := funext fun k => funext fun j => w_at m c t n k j
    have en (n : Fin 3) : (fun j => (iblk m c 12 t : Vec Ideal S3x128 .f32) (ix2 n j)) = aN m c n := funext fun j => n_at m c t n j
    rw [eg 0, eg 1, eg 2, ew 0, ew 1, ew 2, en 0, en 1, en 2]
    rfl
  have ex : (fun k => (iblk m c 10 t : Vec Ideal S256x1024 .f32) (ix2 i k)) = aX m c r := funext (x_at m c t i r hr)
  have eg : (fun k => (iblk m c 11 t : Vec Ideal S1x1x1024 .f32) (ix3 0 0 k)) = aG m c (grp r) := funext (g1_at m c t i r hr)
  have ew : (fun k j => (iblk m c 14 t : Vec Ideal S1024x1024 .bf16) (ix2 k j)) = aWo m c := funext fun k => funext fun j => wo_at m c t k j
  refine (residualV_at _ _ _ _ i j).trans ?_
  rw [ex, eg, ew, funext eM]

/-- What a grid point leaves at an index of its output block. -/
theorem block_at (c : Dev nD) (t : Fin cfg0.N) (i : Fin 256) (j : Fin 1024) (r : Fin 12288) (hr : r.val = 256 * t.val + i.val) :
    (outsAt0 m c t : Vec Ideal S256x1024 .f32) (ix2 i j) = tokenOf m c r j := by
  have e1 : (fun k => (iblk m c 15 t : Vec Ideal S1x1024 .f32) (ix2 0 k)) = aLg m c 0 := funext (lg_at m c t)
  have e2 : (fun k => (iblk m c 16 t : Vec Ideal S1x1024 .f32) (ix2 0 k)) = aLb m c 0 := funext (lb_at m c t)
  rw [out_A, layerNormV_at, e1, e2, funext (res_at m c t i r hr)]
  rfl

/-- Where a point's block lies in the result array. -/
theorem emb17 (t : Fin cfg0.N) (i : Fin 256) (j : Fin 1024) (r : Fin 12288) (hr : r.val = 256 * t.val + i.val) :
    (((View.whole main_v4).slice (win0_17.rect t)).emb (ix2 i j) : S12288x1024.Idx) = ix2 r j := by
  blk_ext [idx t]

/-- The result array. -/
theorem arr17 (c : Dev nD) : (dats m 0 c).arrAt 17 cfg0.N = result m c := by
  refine (dats m 0 c).arrAt_eq_of_covers 17 _ (by decide +kernel) (fun t hf y => ?_)
  blk_simp
  rw [after0_17]
  idx_vars y
  have hN : cfg0.N = 48 := N_0
  have ht : t.val < cfg0.N := t.isLt
  exact (block_at m c t y0 y1 ⟨256 * t.val + y0.val, by omega⟩ rfl).trans (congrArg (result m c) (emb17 t y0 y1 _ rfl)).symm

end Cert.Kernel3Ideal.Merge
end
-- ==== Proof.MergeRef.lean ====
/- The merge: the reference's stages, read at an index. -/
module

public import proofs.«01_k».proof.Proof.MergeSpec
public import proofs.«01_k».proof.Proof.Gen.Reference3Ideal.Read
public import Idealize.ShloMosaic.Lib.Pipeline.ValueKit
public import Idealize.ShloMosaic.Lib.Pipeline.ReadBack

@[expose] public section

set_option maxRecDepth 16384

noncomputable section

namespace Cert.Reference3Ideal.Merge

open Cert.Reference3Ideal Cert.Reference3Ideal.Gen Idealize.ShloMosaic Idealize.ShloMosaic.TcCoe Idealize.SL.Sem
open Cert.Merge Cert.Reference3Ideal.Read

/-- The row of a place of a group. -/
def row (b : Fin 3) (t : Fin 4096) : Fin 12288 := ⟨4096 * b.val + t.val, by omega⟩

/-- A mixer's array cut into heads. -/
def heads (X : FVec Ideal S12288x512 .f32) : FVec Ideal S3x4096x4x128 .f32 := shapeCast _ X shapeCasts_S12288x512_S3x4096x4x128
/-- Every head's mean. -/
def headMean (O : FVec Ideal S3x4096x4x128 .f32) : FVec Ideal S3x4096x4x1 .f32 :=
  Host.divf (broadcastInDim S3x4096x4x1 ![0, 1, 2] bcast_S3x4096x4_S3x4096x4x1_0_1_2
    (Host.reduceAdd O (constant S_ .f32 0x00000000#32) reducesTo_S3x4096x4x128_S3x4096x4_d3 h_S_))
    (broadcastInDim S3x4096x4x1 ![] bcast_S_S3x4096x4x1 (constant S_ .f32 0x43000000#32))
/-- Every head with its mean taken off. -/
def headCenter (O : FVec Ideal S3x4096x4x128 .f32) : FVec Ideal S3x4096x4x128 .f32 :=
  subf O (broadcastInDim S3x4096x4x128 ![0, 1, 2, 3] bcast_S3x4096x4x1_S3x4096x4x128_0_1_2_3 (headMean O))
/-- Every head scaled to unit mean square and multiplied by the weights. -/
def headScale (w : FVec Ideal S128 .f32) (O : FVec Ideal S3x4096x4x128 .f32) : FVec Ideal S3x4096x4x128 .f32 :=
  mulf (mulf O (broadcastInDim S3x4096x4x128 ![0, 1, 2, 3] bcast_S3x4096x4x1_S3x4096x4x128_0_1_2_3
    (Host.rsqrt (addf (headMean (mulf O O)) (broadcastInDim S3x4096x4x1 ![] bcast_S_S3x4096x4x1 (constant S_ .f32 0x358637BD#32))))))
    (broadcastInDim S3x4096x4x128 ![0, 1, 2, 3] bcast_S1x1x1x128_S3x4096x4x128_0_1_2_3 (broadcastInDim S1x1x1x128 ![3] bcast_S128_S1x1x1x128_3 w))
/-- The gate of the heads. -/
def headGate (Z : FVec Ideal S3x4096x4x128 .f32) : FVec Ideal S3x4096x4x128 .f32 :=
  mulf Z (Host.divf (broadcastInDim S3x4096x4x128 ![] bcast_S_S3x4096x4x128 (constant S_ .f32 0x3F800000#32))
    (addf (broadcastInDim S3x4096x4x128 ![] bcast_S_S3x4096x4x128 (constant S_ .f32 0x3F800000#32)) (Host.exp (Host.negf Z))))

/-- The heads at an index. -/
theorem heads_at (X : FVec Ideal S12288x512 .f32) (b : Fin 3) (t : Fin 4096) (h : Fin 4) (j : Fin 128) :
    heads X (ix4 b t h j) = X (ix2 (row b t) (at512 h j)) := by
  have h1 : (row b t).val = 4096 * b.val + t.val := rfl
  have h2 : (at512 h j).val = 128 * h.val + j.val := rfl
  pointwise [heads]
  blk_ext

/-- A head's mean at an index. -/
theorem headMean_at (O : FVec Ideal S3x4096x4x128 .f32) (b : Fin 3) (t : Fin 4096) (h : Fin 4) :
    headMean O (ix4 b t h 0) = mean128 (fun j => O (ix4 b t h j)) := by
  pointwise [headMean]
  rfl

/-- A centred head at an index. -/
theorem headCenter_at (O : FVec Ideal S3x4096x4x128 .f32) (b : Fin 3) (t : Fin 4096) (h : Fin 4) (j : Fin 128) :
    headCenter O (ix4 b t h j) = center (fun j => O (ix4 b t h j)) j := by
  refine Eq.trans ?_ (congrArg (O (ix4 b t h j) - ·) (headMean_at O b t h))
  pointwise [headCenter]

/-- A scaled head at an index. -/
theorem headScale_at (w : FVec Ideal S128 .f32) (O : FVec Ideal S3x4096x4x128 .f32) (b : Fin 3) (t : Fin 4096) (h : Fin 4) (j : Fin 128) :
    headScale w O (ix4 b t h j) = norm (fun j => w (ix1 j)) (fun j => O (ix4 b t h j)) j := by
  refine Eq.trans ?_ (congrArg (fun y => O (ix4 b t h j) * Ideal.rsqrt (y + Ideal.ofBits FTy.f32 897988541#32) * w (ix1 j)) (headMean_at (mulf (F := Ideal) (φ := .f32) O O) b t h))
  pointwise [headScale]

/-- A head's gate at an index. -/
theorem headGate_at (Z : FVec Ideal S3x4096x4x128 .f32) (i : S3x4096x4x128.Idx) :
    headGate Z i = Z i * Ideal.logistic (Z i) := by
  pointwise [headGate]
  rfl

/-- A token's mean. -/
def tokMean (Y : FVec Ideal S3x4096x1024 .f32) : FVec Ideal S3x4096x1 .f32 :=
  Host.divf (broadcastInDim S3x4096x1 ![0, 1] bcast_S3x4096_S3x4096x1_0_1
    (Host.reduceAdd Y (constant S_ .f32 0x00000000#32) reducesTo_S3x4096x1024_S3x4096_d2 h_S_))
    (broadcastInDim S3x4096x1 ![] bcast_S_S3x4096x1 (constant S_ .f32 0x44800000#32))
/-- A token with its mean taken off. -/
def tokCenter (Y : FVec Ideal S3x4096x1024 .f32) : FVec Ideal S3x4096x1024 .f32 :=
  subf Y (broadcastInDim S3x4096x1024 ![0, 1, 2] bcast_S3x4096x1_S3x4096x1024_0_1_2 (tokMean Y))
/-- The layer normalisation. -/
def tokNorm (Y : FVec Ideal S3x4096x1024 .f32) (g b : FVec Ideal S1024 .f32) : FVec Ideal S3x4096x1024 .f32 :=
  addf (mulf (mulf (tokCenter Y) (broadcastInDim S3x4096x1024 ![0, 1, 2] bcast_S3x4096x1_S3x4096x1024_0_1_2
    (Host.rsqrt (addf (tokMean (mulf (tokCenter Y) (tokCenter Y))) (broadcastInDim S3x4096x1 ![] bcast_S_S3x4096x1 (constant S_ .f32 0x3727C5AC#32))))))
    (broadcastInDim S3x4096x1024 ![0, 1, 2] bcast_S1x1x1024_S3x4096x1024_0_1_2 (broadcastInDim S1x1x1024 ![2] bcast_S1024_S1x1x1024_2 g)))
    (broadcastInDim S3x4096x1024 ![0, 1, 2] bcast_S1x1x1024_S3x4096x1024_0_1_2 (broadcastInDim S1x1x1024 ![2] bcast_S1024_S1x1x1024_2 b))
/-- The sigmoid of the channel gates. -/
def chanGate (G : FVec Ideal S3x4096x3x1024 .f32) : FVec Ideal S3x4096x3x1024 .f32 :=
  Host.divf (broadcastInDim S3x4096x3x1024 ![] bcast_S_S3x4096x3x1024 (constant S_ .f32 0x3F800000#32))
    (addf (broadcastInDim S3x4096x3x1024 ![] bcast_S_S3x4096x3x1024 (constant S_ .f32 0x3F800000#32)) (Host.exp (Host.negf G)))
/-- The three mixers' heads side by side, each mixer's 512 positions in a row. -/
def stacked (A B C : FVec Ideal S3x4096x4x128 .f32) : FVec Ideal S3x4096x3x512 .f32 :=
  shapeCast _ (concatenate S3x4096x3x4x128 2 [⟨S3x4096x1x4x128, broadcastInDim S3x4096x1x4x128 ![0, 1, 3, 4] bcast_S3x4096x4x128_S3x4096x1x4x128_0_1_3_4 A⟩,
    ⟨S3x4096x1x4x128, broadcastInDim S3x4096x1x4x128 ![0, 1, 3, 4] bcast_S3x4096x4x128_S3x4096x1x4x128_0_1_3_4 B⟩,
    ⟨S3x4096x1x4x128, broadcastInDim S3x4096x1x4x128 ![0, 1, 3, 4] bcast_S3x4096x4x128_S3x4096x1x4x128_0_1_3_4 C⟩]
    concatenates_S3x4096x1x4x128_S3x4096x1x4x128_S3x4096x1x4x128_S3x4096x3x4x128_d2) shapeCasts_S3x4096x3x4x128_S3x4096x3x512

/-- A token's mean at an index. -/
theorem tokMean_at (Y : FVec Ideal S3x4096x1024 .f32) (b : Fin 3) (t : Fin 4096) : tokMean Y (ix3 b t 0) = mean1024 (fun k => Y (ix3 b t k)) := by
  pointwise [tokMean]
  rfl

/-- A centred token at an index. -/
theorem tokCenter_at (Y : FVec Ideal S3x4096x1024 .f32) (b : Fin 3) (t : Fin 4096) (c : Fin 1024) :
    tokCenter Y (ix3 b t c) = Y (ix3 b t c) - mean1024 (fun k => Y (ix3 b t k)) := by
  rw [← tokMean_at]
  pointwise [tokCenter]

/-- The mean square of a centred token. -/
theorem tokVar_at (Y : FVec Ideal S3x4096x1024 .f32) (b : Fin 3) (t : Fin 4096) : tokMean (mulf (tokCenter Y) (tokCenter Y)) (ix3 b t 0)
    = mean1024 (fun k => (Y (ix3 b t k) - mean1024 (fun k => Y (ix3 b t k))) * (Y (ix3 b t k) - mean1024 (fun k => Y (ix3 b t k)))) := by
  rw [tokMean_at]
  refine congrArg mean1024 (funext fun k => ?_)
  rw [← tokCenter_at]
  rfl

/-- The layer normalisation at an index. -/
theorem tokNorm_at (Y : FVec Ideal S3x4096x1024 .f32) (g b : FVec Ideal S1024 .f32) (p : Fin 3) (t : Fin 4096) (c : Fin 1024) :
    tokNorm Y g b (ix3 p t c) = layerNorm (fun k => g (ix1 k)) (fun k => b (ix1 k)) (fun k => Y (ix3 p t k)) c := by
  refine Eq.trans (b := tokCenter Y (ix3 p t c) * Ideal.rsqrt (tokMean (mulf (tokCenter Y) (tokCenter Y)) (ix3 p t 0) + Ideal.ofBits FTy.f32 925353388#32) * g (ix1 c) + b (ix1 c)) ?_ ?_
  · pointwise [tokNorm]
  · rw [tokCenter_at, tokVar_at]
    rfl

/-- The channel gates at an index. -/
theorem chanGate_at (G : FVec Ideal S3x4096x3x1024 .f32) (i : S3x4096x3x1024.Idx) : chanGate G i = Ideal.logistic (G i) := by
  pointwise [chanGate]
  rfl

/-- The heads side by side at an index. -/
theorem stacked_at (A B C : FVec Ideal S3x4096x4x128 .f32) (b : Fin 3) (t : Fin 4096) (k : Fin 512) : ∀ n : Fin 3,
    stacked A B C (ix4 b t n k) = (match n with | 0 => A | 1 => B | 2 => C) (ix4 b t (hd k) (ft k))
  | 0 => by
    pointwise [stacked]
    rfl
  | 1 => by
    pointwise [stacked]
    rfl
  | 2 => by
    pointwise [stacked]
    rfl

section
variable (x0 x1 x2 x3 x4 x5 : FVec Ideal S12288x512 .f32) (x6 : FVec Ideal S12288x9856 .f32) (x7 : FVec Ideal S12288x1024 .f32)
  (x8 : FVec Ideal S8x1x1024 .f32) (x9 : FVec Ideal S3x128 .f32) (x10 : FVec Ideal S3x512x1024 .f32) (x11 : FVec Ideal S1024x1024 .f32)
  (x12 x13 : FVec Ideal S2x1024 .f32)

/-- The mixers' outputs at a token, from the arguments. -/
abbrev outs (r : Fin 12288) : Fin 3 → Fin 512 → EReal :=
  mixerOut (fun r k => x0 (ix2 r k)) (fun r k => x1 (ix2 r k)) (fun r k => x2 (ix2 r k)) (fun r k => x3 (ix2 r k)) (fun r k => x4 (ix2 r k)) (fun r k => x5 (ix2 r k)) r

/-- Two directions' heads added, at an index. -/
theorem pair_at (X Y : FVec Ideal S12288x512 .f32) (b : Fin 3) (t : Fin 4096) (h : Fin 4) (j : Fin 128) :
    addf (heads X) (heads Y) (ix4 b t h j) = X (ix2 (row b t) (at512 h j)) + Y (ix2 (row b t) (at512 h j)) :=
  congrArg₂ (· + ·) (heads_at X b t h j) (heads_at Y b t h j)

/-- A gated head at an index. -/
theorem gateOf_at (Z : FVec Ideal S12288x512 .f32) (b : Fin 3) (t : Fin 4096) (h : Fin 4) (j : Fin 128) :
    headGate (heads Z) (ix4 b t h j) = Z (ix2 (row b t) (at512 h j)) * Ideal.logistic (Z (ix2 (row b t) (at512 h j))) := by
  rw [headGate_at, heads_at]

/-- The first mixer's output gate. -/
theorem z0_at (r : Fin 12288) (k : Fin 512) : val_main_v1 (F := Ideal) x6 (ix2 r k) = x6 (ix2 r (zcol 0 k)) := by
  have hz : (zcol 0 k).val = 4608 + k.val := rfl
  pointwise [val_main_v1]
  blk_ext
/-- The second mixer's output gate. -/
theorem z1_at (r : Fin 12288) (k : Fin 512) : val_main_v2 (F := Ideal) x6 (ix2 r k) = x6 (ix2 r (zcol 1 k)) := by
  have hz : (zcol 1 k).val = 6656 + k.val := rfl
  pointwise [val_main_v2]
  blk_ext
/-- The third mixer's output gate. -/
theorem z2_at (r : Fin 12288) (k : Fin 512) : val_main_v3 (F := Ideal) x6 (ix2 r k) = x6 (ix2 r (zcol 2 k)) := by
  have hz : (zcol 2 k).val = 9216 + k.val := rfl
  pointwise [val_main_v3]
  blk_ext
/-- The first mixer's norm weights. -/
theorem w0_at (j : Fin 128) : val_main_v8 (F := Ideal) x9 (ix1 j) = x9 (ix2 0 j) := by
  pointwise [val_main_v8, val_main_v7]
/-- The second mixer's norm weights. -/
theorem w1_at (j : Fin 128) : val_main_v29 (F := Ideal) x9 (ix1 j) = x9 (ix2 1 j) := by
  pointwise [val_main_v29, val_main_v28]
/-- The third mixer's norm weights. -/
theorem w2_at (j : Fin 128) : val_main_v58 (F := Ideal) x9 (ix1 j) = x9 (ix2 2 j) := by
  pointwise [val_main_v58, val_main_v57]

/-- The first mixer's heads, normalised and gated, as one expression. -/
theorem dn_eq : val_main_v24 (F := Ideal) x0 x1 x6 x9
    = mulf (headScale (val_main_v8 (F := Ideal) x9) (addf (heads x0) (heads x1))) (headGate (heads (val_main_v1 (F := Ideal) x6))) := rfl
/-- The second mixer's heads, normalised and gated, as one expression. -/
theorem rt_eq : val_main_v53 (F := Ideal) x2 x3 x6 x9
    = mulf (headScale (val_main_v29 (F := Ideal) x9) (headCenter (addf (heads x2) (heads x3)))) (headGate (heads (val_main_v2 (F := Ideal) x6))) := rfl
/-- The third mixer's heads, normalised and gated, as one expression. -/
theorem hg_eq : val_main_v74 (F := Ideal) x4 x5 x6 x9
    = mulf (headScale (val_main_v58 (F := Ideal) x9) (addf (heads x4) (heads x5))) (headGate (heads (val_main_v3 (F := Ideal) x6))) := rfl

/-- A mixer's heads, normalised and gated, at an index. -/
theorem gated_at (n : Fin 3) (w : FVec Ideal S128 .f32) (O : FVec Ideal S3x4096x4x128 .f32) (Z : FVec Ideal S12288x512 .f32)
    (w' : Fin 128 → EReal) (o z : Fin 512 → EReal) (b : Fin 3) (t : Fin 4096) (k : Fin 512)
    (hO : headScale w O (ix4 b t (hd k) (ft k)) = headNorm n w' (fun j => o (at512 (hd k) j)) (ft k)) (hZ : ∀ k, Z (ix2 (row b t) k) = z k) :
    mulf (headScale w O) (headGate (heads Z)) (ix4 b t (hd k) (ft k)) = gated n w' o z k := by
  refine Eq.trans (congrArg₂ (· * ·) hO (gateOf_at Z b t (hd k) (ft k))) ?_
  rw [hZ, at512_hd_ft]
  rfl

/-- The mixers side by side at an index. -/
theorem mixed_at (b : Fin 3) (t : Fin 4096) (k : Fin 512) (n : Fin 3) :
    val_main_v79 (F := Ideal) x0 x1 x2 x3 x4 x5 x6 x9 (ix4 b t n k)
      = gated n (fun j => x9 (ix2 n j)) (outs x0 x1 x2 x3 x4 x5 (row b t) n) (fun k => x6 (ix2 (row b t) (zcol n k))) k := by
  refine (stacked_at (val_main_v24 (F := Ideal) x0 x1 x6 x9) (val_main_v53 (F := Ideal) x2 x3 x6 x9) (val_main_v74 (F := Ideal) x4 x5 x6 x9) b t k n).trans ?_
  match n with
  | 0 =>
    refine gated_at 0 (val_main_v8 (F := Ideal) x9) (addf (heads x0) (heads x1)) (val_main_v1 (F := Ideal) x6) _ _ _ b t k ?_ (z0_at x6 (row b t))
    rw [headScale_at, funext (w0_at x9), funext (pair_at x0 x1 b t (hd k))]
    rfl
  | 1 =>
    refine gated_at 1 (val_main_v29 (F := Ideal) x9) (headCenter (addf (heads x2) (heads x3))) (val_main_v2 (F := Ideal) x6) _ _ _ b t k ?_ (z1_at x6 (row b t))
    rw [headScale_at, funext (w1_at x9), funext (headCenter_at _ b t (hd k)), funext (pair_at x2 x3 b t (hd k))]
    rfl
  | 2 =>
    refine gated_at 2 (val_main_v58 (F := Ideal) x9) (addf (heads x4) (heads x5)) (val_main_v3 (F := Ideal) x6) _ _ _ b t k ?_ (z2_at x6 (row b t))
    rw [headScale_at, funext (w2_at x9), funext (pair_at x4 x5 b t (hd k))]
    rfl

/-- A mixer's branch at an index. -/
theorem branch_at (b : Fin 3) (t : Fin 4096) (n : Fin 3) (c : Fin 1024) :
    val_main_v89 (F := Ideal) x0 x1 x2 x3 x4 x5 x6 x9 x10 (ix4 b t n c)
      = branch n (fun j => x9 (ix2 n j)) (outs x0 x1 x2 x3 x4 x5 (row b t) n) (fun k => x6 (ix2 (row b t) (zcol n k)))
        (fun k c => x10 (ix3 n k c)) (fun c => x6 (ix2 (row b t) (gcol n c))) c := by
  have eG : val_main_v82 (F := Ideal) x6 (ix4 b t n c) = x6 (ix2 (row b t) (gcol n c)) := by
    have h1 : (row b t).val = 4096 * b.val + t.val := rfl
    have h2 : (gcol n c).val = 1024 * n.val + c.val := rfl
    pointwise [val_main_v82, val_main_v0]
    blk_ext
  have eS : val_main_v81 (F := Ideal) x0 x1 x2 x3 x4 x5 x6 x9 x10 (ix4 b t n c)
      = ∑ k : Fin 512, x10 (ix3 n k c) * val_main_v79 (F := Ideal) x0 x1 x2 x3 x4 x5 x6 x9 (ix4 b t n k) := by
    rw [val_main_v81_apply, val_main_v80_apply]
    refine Finset.sum_congr rfl fun k _ => ?_
    blk_point
  refine Eq.trans (congrArg₂ (· * ·) ((chanGate_at (val_main_v82 (F := Ideal) x6) (ix4 b t n c)).trans (congrArg Ideal.logistic eG)) eS) ?_
  refine congrArg (Ideal.logistic (x6 (ix2 (row b t) (gcol n c))) * ·) (Finset.sum_congr rfl fun k _ => ?_)
  rw [mul_comm, mixed_at]

/-- The token plus its mix at an index. -/
theorem residual_at (b : Fin 3) (t : Fin 4096) (c : Fin 1024) :
    val_main_v98 (F := Ideal) x0 x1 x2 x3 x4 x5 x6 x7 x8 x9 x10 x11 (ix3 b t c)
      = residual (fun k => x7 (ix2 (row b t) k)) (fun k => x8 (ix3 (grp (row b t)) 0 k)) (fun k => ∑ n : Fin 3,
        branch n (fun j => x9 (ix2 n j)) (outs x0 x1 x2 x3 x4 x5 (row b t) n) (fun k => x6 (ix2 (row b t) (zcol n k)))
          (fun k c => x10 (ix3 n k c)) (fun c => x6 (ix2 (row b t) (gcol n c))) k) (fun k c => x11 (ix2 k c)) c := by
  have h1 : (row b t).val = 4096 * b.val + t.val := rfl
  have h2 : (grp (row b t)).val = (row b t).val / 4096 := rfl
  have eM (k : Fin 1024) : val_main_v90 (F := Ideal) x0 x1 x2 x3 x4 x5 x6 x9 x10 (ix3 b t k) = ∑ n : Fin 3,
        branch n (fun j => x9 (ix2 n j)) (outs x0 x1 x2 x3 x4 x5 (row b t) n) (fun k => x6 (ix2 (row b t) (zcol n k)))
          (fun k c => x10 (ix3 n k c)) (fun c => x6 (ix2 (row b t) (gcol n c))) k := by
    rw [val_main_v90_apply]
    refine Eq.trans (b := (0 : EReal) + ∑ n : Fin 3, val_main_v89 (F := Ideal) x0 x1 x2 x3 x4 x5 x6 x9 x10 (ix4 b t n k)) ?_ ?_
    · refine congrArg₂ (· + ·) (by pointwise [val_main_cst_12]) (Finset.sum_congr rfl fun n _ => ?_)
      blk_point
    · rw [zero_add]
      exact Finset.sum_congr rfl fun n _ => branch_at x0 x1 x2 x3 x4 x5 x6 x9 x10 b t n k
  have eD : val_main_v91 (F := Ideal) x0 x1 x2 x3 x4 x5 x6 x9 x10 x11 (ix3 b t c)
      = ∑ k : Fin 1024, val_main_v90 (F := Ideal) x0 x1 x2 x3 x4 x5 x6 x9 x10 (ix3 b t k) * x11 (ix2 k c) := by
    rw [val_main_v91_apply]
    refine Finset.sum_congr rfl fun k _ => ?_
    blk_point
  have eX : val_main_v94 (F := Ideal) x7 (ix3 b t c) = Ideal.ofBits FTy.f32 1068827891#32 * x7 (ix2 (row b t) c) := by
    pointwise [val_main_v94, val_main_v93, val_main_v92, val_main_cst_13]
    blk_point
  have eG : val_main_v96 (F := Ideal) x8 (ix3 b t c) = x8 (ix3 (grp (row b t)) 0 c) := by
    pointwise [val_main_v96, val_main_v95]
    blk_ext
  exact congrArg₂ (· + ·) eX (congrArg₂ (· * ·) eG (eD.trans (Finset.sum_congr rfl fun k _ => congrArg (· * x11 (ix2 k c)) (eM k))))

/-- The result at an index: the merge of the token. -/
theorem result_at (b : Fin 3) (t : Fin 4096) (c : Fin 1024) :
    val_main_v127 (F := Ideal) x0 x1 x2 x3 x4 x5 x6 x7 x8 x9 x10 x11 x12 x13 (ix2 (row b t) c)
      = token (fun r k => x0 (ix2 r k)) (fun r k => x1 (ix2 r k)) (fun r k => x2 (ix2 r k)) (fun r k => x3 (ix2 r k)) (fun r k => x4 (ix2 r k))
        (fun r k => x5 (ix2 r k)) (fun r k => x6 (ix2 r k)) (fun r k => x7 (ix2 r k)) (fun r k => x8 (ix3 r 0 k)) (fun n j => x9 (ix2 n j))
        (fun n k c => x10 (ix3 n k c)) (fun k c => x11 (ix2 k c)) (fun b k => x12 (ix2 b k)) (fun b k => x13 (ix2 b k)) (row b t) c := by
  have h1 : (row b t).val = 4096 * b.val + t.val := rfl
  have e1 : val_main_v127 (F := Ideal) x0 x1 x2 x3 x4 x5 x6 x7 x8 x9 x10 x11 x12 x13 (ix2 (row b t) c)
      = val_main_v126 (F := Ideal) x0 x1 x2 x3 x4 x5 x6 x7 x8 x9 x10 x11 x12 x13 (ix3 b t c) := by
    rw [val_main_v127_apply]
    blk_ext
  have e2 : val_main_v126 (F := Ideal) x0 x1 x2 x3 x4 x5 x6 x7 x8 x9 x10 x11 x12 x13
      = tokNorm (val_main_v98 (F := Ideal) x0 x1 x2 x3 x4 x5 x6 x7 x8 x9 x10 x11) (val_main_v100 (F := Ideal) x12) (val_main_v102 (F := Ideal) x13) := rfl
  have eg (k : Fin 1024) : val_main_v100 (F := Ideal) x12 (ix1 k) = x12 (ix2 0 k) := by
    pointwise [val_main_v100, val_main_v99]
  have eb (k : Fin 1024) : val_main_v102 (F := Ideal) x13 (ix1 k) = x13 (ix2 0 k) := by
    pointwise [val_main_v102, val_main_v101]
  rw [e1, e2, tokNorm_at, funext eg, funext eb, funext (residual_at x0 x1 x2 x3 x4 x5 x6 x7 x8 x9 x10 x11 b t)]
  unfold token merged
  simp only [Fin.sum_univ_three]
end

end Cert.Reference3Ideal.Merge
end
-- ==== Proof.MergeClaim.lean ====
/- The merge: the claim that kernel and reference leave the same array. -/
module

public import proofs.«01_k».proof.Proof.MergeArray
public import proofs.«01_k».proof.Proof.MergeRef
public import proofs.«01_k».proof.Proof.Gen.Kernel3Ideal.Value
public import proofs.«01_k».proof.Proof.Gen.Reference3Ideal.Run

@[expose] public section

set_option maxRecDepth 16384

noncomputable section

open Idealize.ShloMosaic Idealize.ShloMosaic.TcCoe Idealize.SL.Sem

namespace Cert.Kernel3Ideal.Merge

open Cert.Reference3Ideal.Merge (row)

/-- Every row is a place of a group. -/
theorem row_split (r : Fin 12288) : r = row ⟨r.val / 4096, by omega⟩ ⟨r.val % 4096, by omega⟩ := by
  refine Fin.ext ?_
  show r.val = 4096 * (r.val / 4096) + r.val % 4096
  omega

/-- The merge's kernel and the reference leave the same array: both hold every token's merge. -/
theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => result m c, (θ_run _ _ _).mono (fun r h c => ⟨(h c).1.trans (arr17 m c), (h c).2⟩) (Value.run_blocks m g),
    (θ_run _ _ _).mono (fun r h c => ⟨(h c).1.trans ?_, (h c).2⟩) (Cert.Reference3Ideal.Value.run m' g')⟩
  rw [Cert.Reference3Ideal.Read.val_main_v127_eq]
  funext i
  idx_vars i
  obtain ⟨h0, h1, h2, h3, h4, h5, h6, h7, h8, h9, h10, h11, h12, h13⟩ := hag c
  rw [h0, h1, h2, h3, h4, h5, h6, h7, h8, h9, h10, h11, h12, h13, row_split i0]
  exact Cert.Reference3Ideal.Merge.result_at _ _ _ _ _ _ _ _ _ _ _ _ _ _ _ _ _

end Cert.Kernel3Ideal.Merge
end
-- ==== Proof.RetSpec.lean ====
/- Chunked retention as sums over extended reals: what kernel and reference are both shown to compute. -/
module

public import Idealize.ShloMosaic.PureOps.Ideal.Laws

@[expose] public section

noncomputable section

namespace Cert.Retention

open Idealize.ShloMosaic

/-- The row of the token that direction `d` meets at position `p` of chunk `n` of sequence `b`: sequences of 256 tokens lie
    one after another, direction 0 reads forwards and direction 1 backwards. -/
def tok (d : Fin 2) (b : Fin 16) (n : ℕ) (p : Fin 64) : Fin 12288 :=
  ⟨(b.val * 256 + (if d = 0 then 64 * n + p.val else 255 - (64 * n + p.val))) % 12288, Nat.mod_lt _ (by decide)⟩

/-- The column of head `h`'s entry `x`, in arrays of 4 heads of 128. -/
def col (h : Fin 4) (x : Fin 128) : Fin 512 := ⟨h.val * 128 + x.val, by omega⟩

/-- The same column within the projection, where the values start at 6144. -/
def vcol (h : Fin 4) (x : Fin 128) : Fin 9856 := ⟨6144 + (h.val * 128 + x.val), by omega⟩

/-- The decay over `k` positions at log-decay `g`: `exp (k g)`. -/
def pw (g : EReal) (k : ℕ) : EReal := Ideal.exp (((k : ℝ) : EReal) * g)

/-- The decay from position `j` to position `i`: none of a later position is seen. -/
def dec (g : EReal) (i j : Fin 64) : EReal := if j.val ≤ i.val then pw g (i.val - j.val) else 0

/-- The whole number a signed word holds, as an extended real. -/
theorem sitofp_at (b : BitVec 32) : (FloatOps.sitofp FTy.f32 b : Ideal .f32) = ((b.toInt : ℝ) : EReal) := rfl

/-- A position of a chunk as a signed word is that position. -/
theorem pos_toInt : ∀ i : Fin 64, (BitVec.ofNat 32 i.val).toInt = (i.val : ℤ) := by decide +kernel

/-- The pattern read as 63. -/
theorem ofBits_63 : Ideal.ofBits .f32 1115422720#32 = ((63 : ℝ) : EReal) := by
  simp [Ideal.ofBits, Ideal.ieee, -EReal.coe_mul]; norm_num

/-- The pattern read as 64. -/
theorem ofBits_64 : Ideal.ofBits .f32 1115684864#32 = ((64 : ℝ) : EReal) := by
  simp [Ideal.ofBits, Ideal.ieee, -EReal.coe_mul]; norm_num

/-- The decay of a place counted from one, its place raised in the extended reals. -/
theorem add_one_pw (g : EReal) (n : ℕ) : Ideal.exp (((((n : ℤ) : ℝ) : EReal) + 1) * g) = pw g (n + 1) := by
  rw [pw, Int.cast_natCast, Nat.cast_add, Nat.cast_one, EReal.coe_add, EReal.coe_one]

/-- The decay left from a place to the chunk's end, the difference taken in the extended reals. -/
theorem sub_pw (g : EReal) (n : Fin 64) : Ideal.exp ((((63 : ℝ) : EReal) - ((((n.val : ℕ) : ℤ) : ℝ) : EReal)) * g) = pw g (63 - n.val) := by
  rw [pw, Int.cast_natCast, Nat.cast_sub (by omega), EReal.coe_sub]
  rfl

/-- The sequence a row belongs to. -/
def seqOf (r : Fin 12288) : Fin 16 := ⟨r.val / 256 % 16, Nat.mod_lt _ (by decide)⟩
/-- The place of a row in its chunk. -/
def pl (r : Fin 12288) : Fin 64 := ⟨r.val % 64, Nat.mod_lt _ (by decide)⟩
/-- The head a column belongs to. -/
def hd (o : Fin 512) : Fin 4 := ⟨o.val / 128, by omega⟩
/-- The feature of a column. -/
def ft (o : Fin 512) : Fin 128 := ⟨o.val % 128, by omega⟩

variable (q k : Fin 12288 → Fin 512 → EReal) (v : Fin 12288 → Fin 9856 → EReal) (w : Fin 2 → Fin 4 → EReal)

/-- The log-decay of a direction's head. -/
def lg (d : Fin 2) (h : Fin 4) : EReal := -(Ideal.exp (w d h))

/-- The state before chunk `n`: zero at the start, then decayed over 64 positions with the chunk's keys and values added. -/
def state (d : Fin 2) (b : Fin 16) (h : Fin 4) : ℕ → Fin 128 → Fin 128 → EReal
  | 0 => fun _ _ => 0
  | n + 1 => fun x y => state d b h n x y * pw (lg w d h) 64
      + ∑ j : Fin 64, k (tok d b n j) (col h x) * pw (lg w d h) (63 - j.val) * v (tok d b n j) (vcol h y)

/-- The output at position `i` of chunk `n`: the decayed attention within the chunk, and the state read by the query. -/
def out (d : Fin 2) (b : Fin 16) (h : Fin 4) (n : ℕ) (i : Fin 64) (y : Fin 128) : EReal :=
  (∑ j : Fin 64, ((∑ x : Fin 128, q (tok d b n i) (col h x) * k (tok d b n j) (col h x)) * dec (lg w d h) i j) * v (tok d b n j) (vcol h y))
    + ∑ x : Fin 128, (q (tok d b n i) (col h x) * pw (lg w d h) (i.val + 1)) * state k v w d b h n x y

end Cert.Retention

end
-- ==== Proof.RetBody.lean ====
/- Retention scan: the kernel's arithmetic for one chunk of one head, read at an index, and its decay tables. -/
module

public import proofs.«01_k».proof.Proof.RetSpec
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Retention

/-- The output block of a chunk: decayed attention within the chunk plus the state read by the decayed queries. -/
def chainOut (dm : Vec Ideal S64x64 .f32) (qd : Vec Ideal S64x1 .f32) (q k v : Vec Ideal S64x128 .f32) (s : Vec Ideal S1x1x128x128 .f32) :
    Vec Ideal S64x128 .f32 :=
  k0_pay103 (k0_pay77 (k0_pay68 s) (k0_pay76 q qd)) (k0_pay85 (k0_pay5 v) dm (k0_pay58 q k))

/-- The state block after a chunk: the decayed state plus the chunk's keys and values. -/
def chainState (kd : Vec Ideal S64x1 .f32) (cd : Vec Ideal S1x1 .f32) (k v : Vec Ideal S64x128 .f32) (s : Vec Ideal S1x1x128x128 .f32) :
    Vec Ideal S1x1x128x128 .f32 :=
  k0_pay102 (k0_pay101 k (k0_pay5 v) kd cd (k0_pay68 s))

/-- The output block at an index. -/
theorem chainOut_at (dm qd q k v s) (i : Fin 64) (y : Fin 128) : chainOut dm qd q k v s (ix2 i y)
    = (∑ j : Fin 64, ((∑ x : Fin 128, q (ix2 i x) * k (ix2 j x)) * dm (ix2 i j)) * v (ix2 j y))
      + ∑ x : Fin 128, (q (ix2 i x) * qd (ix2 i 0)) * s (ix4 0 0 x y) := by
  pointwise [chainOut, k0_pay103, k0_pay77, k0_pay68, k0_pay76, k0_pay85, k0_pay5, k0_pay58]
  done

/-- The state block at an index. -/
theorem chainState_at (kd cd k v s) (x : Fin 128) (y : Fin 128) : chainState kd cd k v s (ix4 0 0 x y)
    = s (ix4 0 0 x y) * cd (ix2 0 0) + ∑ j : Fin 64, (k (ix2 j x) * kd (ix2 j 0)) * v (ix2 j y) := by
  pointwise [chainState, k0_pay102, k0_pay101, k0_pay68, k0_pay5]
  done

/-- The difference of two positions is not negative exactly where the second is not later. -/
theorem sub_sge : ∀ i j : Fin 64, IntOp.cmpi .sge (IntOp.subi (BitVec.ofNat 32 i.val) (BitVec.ofNat 32 j.val)) 0#32 = if j.val ≤ i.val then 1#1 else 0#1 := by
  decide +kernel

/-- The difference of two positions, cut off at zero, as a whole number. -/
theorem sub_max : ∀ i j : Fin 64, (IntOp.maxsi (IntOp.subi (BitVec.ofNat 32 i.val) (BitVec.ofNat 32 j.val)) 0#32).toInt = ((i.val - j.val : ℕ) : ℤ) := by
  decide +kernel

/-- 63 less a position is the position counted from the end. -/
theorem rpos_toInt : ∀ i : Fin 64, (IntOp.subi 63#32 (BitVec.ofNat 32 i.val)).toInt = (i.rev.val : ℤ) := by decide +kernel

/-- The masked decay between two positions. -/
theorem masked (g : EReal) (i j : Fin 64) : Scalar.select (IntOp.cmpi .sge (IntOp.subi (BitVec.ofNat 32 i.val) (BitVec.ofNat 32 j.val)) 0#32)
    (Ideal.exp ((FloatOps.sitofp FTy.f32 (IntOp.maxsi (IntOp.subi (BitVec.ofNat 32 i.val) (BitVec.ofNat 32 j.val)) 0#32) : Ideal .f32) * g)) (0 : EReal)
    = dec g i j := by
  rw [sub_sge, sitofp_at, sub_max, dec, pw]
  by_cases h : j.val ≤ i.val
  · rw [if_pos h, if_pos h, Int.cast_natCast]; rfl
  · rw [if_neg h, if_neg h]; rfl

/-- The forward direction's decay table at an index. -/
theorem dec0_at (g : EReal) (i j : Fin 64) : (k0_pay6 (F := Ideal) g) (ix2 i j) = dec g i j := by
  pointwise [k0_pay6]
  exact masked g i j
/-- Counting positions from the end exchanges the two places of a decay. -/
theorem dec_rev (g : EReal) (i j : Fin 64) : dec g i.rev j.rev = dec g j i := by
  unfold dec
  rw [Fin.val_rev, Fin.val_rev]
  by_cases h : i.val ≤ j.val
  · rw [if_pos h, if_pos (by omega)]; congr 1; omega
  · rw [if_neg h, if_neg (by omega)]
/-- The backward direction's decay table at an index. -/
theorem dec1_at (g : EReal) (i j : Fin 64) : (k0_pay32 (F := Ideal) g) (ix2 i j) = dec g i.rev j.rev := by
  rw [dec_rev]
  pointwise [k0_pay32]
  exact masked g j i
/-- The forward direction's decay of the queries. -/
theorem qd0_at (g : EReal) (i : Fin 64) : (k0_pay7 (F := Ideal) g) (ix2 i 0) = pw g (i.val + 1) := by
  pointwise [k0_pay7, k0_pay4]
  rw [sitofp_at, pos_toInt]
  exact add_one_pw g i.val
/-- The backward direction's decay of the queries. -/
theorem qd1_at (g : EReal) (i : Fin 64) : (k0_pay33 (F := Ideal) (iota Kind.tc S64x1 32 [0] iota_S64x1_d0_w32) g) (ix2 i 0) = pw g (i.rev.val + 1) := by
  pointwise [k0_pay33, k0_pay30]
  rw [sitofp_at, rpos_toInt]
  exact add_one_pw g i.rev.val
/-- The forward direction's decay of the keys. -/
theorem kd0_at (g : EReal) (i : Fin 64) : (k0_pay8 (F := Ideal) g) (ix2 i 0) = pw g (63 - i.val) := by
  pointwise [k0_pay8, k0_pay4]
  rw [sitofp_at, pos_toInt, ofBits_63]
  exact sub_pw g i
/-- The backward direction's decay of the keys. -/
theorem kd1_at (g : EReal) (i : Fin 64) : (k0_pay42 (F := Ideal) (iota Kind.tc S64x1 32 [0] iota_S64x1_d0_w32) g) (ix2 i 0) = pw g (63 - i.rev.val) := by
  pointwise [k0_pay42, k0_pay38]
  rw [sitofp_at, rpos_toInt, ofBits_63]
  exact sub_pw g i.rev
/-- The decay of the state over a chunk. -/
theorem cd_at (g : EReal) : (k0_pay9 (F := Ideal) g) (ix2 0 0) = pw g 64 := by
  pointwise [k0_pay9]
  rw [ofBits_64, pw]
  rfl

end Cert.KernelIdeal.Ret
end
-- ==== Proof.RetPoint.lean ====
/- Retention scan: what one grid point leaves in its output blocks and in the carried state, as functions of its input
   blocks. The body writes one 64 by 128 piece for each direction and head, and one 128 by 128 piece of state; every
   piece is the same chain of operations at another place. -/
module

public import proofs.«01_k».proof.Proof.RetBody

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Retention

/-- The place of a row of a block in reading order: itself in the first direction, counted from the end in the second. -/
def ps (d : Fin 2) (i : Fin 64) : Fin 64 := match d with | 0 => i | 1 => i.rev
/-- The decay matrix the body builds for each direction. -/
def dmOf (d : Fin 2) (g : EReal) : Vec Ideal S64x64 .f32 := match d with | 0 => k0_pay6 (F := Ideal) g | 1 => k0_pay32 (F := Ideal) g
/-- The query decay the body builds for each direction. -/
def qdOf (d : Fin 2) (g : EReal) : Vec Ideal S64x1 .f32 :=
  match d with | 0 => k0_pay7 (F := Ideal) g | 1 => k0_pay33 (F := Ideal) (iota Kind.tc S64x1 32 [0] iota_S64x1_d0_w32) g
/-- The key decay the body builds for each direction. -/
def kdOf (d : Fin 2) (g : EReal) : Vec Ideal S64x1 .f32 :=
  match d with | 0 => k0_pay8 (F := Ideal) g | 1 => k0_pay42 (F := Ideal) (iota Kind.tc S64x1 32 [0] iota_S64x1_d0_w32) g
/-- One of two, by the direction. -/
def sel {α : Type} (d : Fin 2) (a b : α) : α := match d with | 0 => a | 1 => b

/-- The decay matrix at an index. -/
theorem dmOf_at : ∀ (d : Fin 2) (g : EReal) (i j : Fin 64), dmOf d g (ix2 i j) = dec g (ps d i) (ps d j)
  | 0 => dec0_at
  | 1 => dec1_at
/-- The query decay at an index. -/
theorem qdOf_at : ∀ (d : Fin 2) (g : EReal) (i : Fin 64), qdOf d g (ix2 i 0) = pw g ((ps d i).val + 1)
  | 0 => qd0_at
  | 1 => qd1_at
/-- The key decay at an index. -/
theorem kdOf_at : ∀ (d : Fin 2) (g : EReal) (i : Fin 64), kdOf d g (ix2 i 0) = pw g (63 - (ps d i).val)
  | 0 => kd0_at
  | 1 => kd1_at

/-- The column of a head's feature in a 512 wide block. -/
def hc (h : Fin 4) (x : Fin 128) : Fin 512 := ⟨128 * h.val + x.val, by omega⟩

/-- A point's output of one direction at a head, a row and a feature. -/
def kOut (d : Fin 2) (L : Vec Ideal S2x4 .f32) (Q K V : Vec Ideal S64x512 .f32) (S : Vec Ideal S2x4x128x128 .f32)
    (h : Fin 4) (i : Fin 64) (y : Fin 128) : EReal :=
  (∑ j : Fin 64, ((∑ x : Fin 128, Q (ix2 i (hc h x)) * K (ix2 j (hc h x))) * dec (L (ix2 d h)) (ps d i) (ps d j)) * V (ix2 j (hc h y)))
    + ∑ x : Fin 128, (Q (ix2 i (hc h x)) * pw (L (ix2 d h)) ((ps d i).val + 1)) * S (ix4 d h x y)

/-- A point's new state at a direction, a head and two features. -/
def kSt (L : Vec Ideal S2x4 .f32) (K0 V0 K1 V1 : Vec Ideal S64x512 .f32) (S : Vec Ideal S2x4x128x128 .f32)
    (d : Fin 2) (h : Fin 4) (x y : Fin 128) : EReal :=
  S (ix4 d h x y) * pw (L (ix2 d h)) 64
    + ∑ j : Fin 64, (sel d K0 K1 (ix2 j (hc h x)) * pw (L (ix2 d h)) (63 - (ps d j).val)) * sel d V0 V1 (ix2 j (hc h y))

/-- The output block of one direction as a whole. -/
def outG (d : Fin 2) (L : Vec Ideal S2x4 .f32) (Q K V : Vec Ideal S64x512 .f32) (S : Vec Ideal S2x4x128x128 .f32) : Vec Ideal S64x512 .f32 :=
  fun y => kOut d L Q K V S ⟨(y 1).val / 128, Nat.div_lt_of_lt_mul (y 1).isLt⟩ (y 0) ⟨(y 1).val % 128, Nat.mod_lt _ (by decide)⟩
/-- The state as a whole. -/
def stG (L : Vec Ideal S2x4 .f32) (K0 V0 K1 V1 : Vec Ideal S64x512 .f32) (S : Vec Ideal S2x4x128x128 .f32) : Vec Ideal S2x4x128x128 .f32 :=
  fun y => kSt L K0 V0 K1 V1 S (y 0) (y 1) (y 2) (y 3)

/-- The log-decay of a head lies in the block. -/
theorem inbL : ∀ (d : Fin 2) (h : Fin 4) (a : Fin 2), (![d.val, h.val] : Fin 2 → ℕ) a + (![1, 1] : Fin 2 → ℕ) a ≤ S2x4.size a := by decide
/-- The columns of a head lie in the block. -/
theorem inbQ : ∀ (h : Fin 4) (a : Fin 2), (![0, 128 * h.val] : Fin 2 → ℕ) a + (![64, 128] : Fin 2 → ℕ) a ≤ S64x512.size a := by decide
/-- The state of a direction's head lies in the block. -/
theorem inbS : ∀ (d : Fin 2) (h : Fin 4) (a : Fin 4), (![d.val, h.val, 0, 0] : Fin 4 → ℕ) a + (![1, 1, 128, 128] : Fin 4 → ℕ) a ≤ S2x4x128x128.size a := by decide

/-- The log decay the body loads for a direction and a head. -/
def ldL (L : Vec Ideal S2x4 .f32) (d : Fin 2) (h : Fin 4) : EReal :=
  View.ld (Val := Elt Ideal) (e' := .f32) L (Rect.unit ![d.val, h.val] ![1, 1] (inbL d h)) (Shape.Idx.first (by show 0 < S1x1.numel; decide))
/-- A head's 128 columns of a block. -/
def ldQ (Q : Vec Ideal S64x512 .f32) (h : Fin 4) : Vec Ideal S64x128 .f32 :=
  View.ld (Val := Elt Ideal) (e' := .f32) Q (Rect.unit ![0, 128 * h.val] ![64, 128] (inbQ h))
/-- The state of a direction and a head. -/
def ldS (S : Vec Ideal S2x4x128x128 .f32) (d : Fin 2) (h : Fin 4) : Vec Ideal S1x1x128x128 .f32 :=
  View.ld (Val := Elt Ideal) (e' := .f32) S (Rect.unit ![d.val, h.val, 0, 0] ![1, 1, 128, 128] (inbS d h))

/-- The loaded log decay. -/
theorem ldL_at (L : Vec Ideal S2x4 .f32) (d : Fin 2) (h : Fin 4) : ldL L d h = L (ix2 d h) := by
  unfold ldL
  refine View.ld_unit_apply_of _ _ _ _ _ (ix2 d h) ?_
  intro a
  match a with
  | ⟨0, _⟩ => show d.val = d.val + 0; omega
  | ⟨1, _⟩ => show h.val = h.val + 0; omega
/-- The loaded columns. -/
theorem ldQ_at (Q : Vec Ideal S64x512 .f32) (h : Fin 4) (i : Fin 64) (x : Fin 128) : ldQ Q h (ix2 i x) = Q (ix2 i (hc h x)) := by
  unfold ldQ
  refine View.ld_unit_apply_of _ _ _ _ _ (ix2 i (hc h x)) ?_
  intro a
  match a with
  | ⟨0, _⟩ => show i.val = 0 + i.val; omega
  | ⟨1, _⟩ => show 128 * h.val + x.val = 128 * h.val + x.val; omega
/-- The loaded state. -/
theorem ldS_at (S : Vec Ideal S2x4x128x128 .f32) (d : Fin 2) (h : Fin 4) (x y : Fin 128) : ldS S d h (ix4 0 0 x y) = S (ix4 d h x y) := by
  unfold ldS
  refine View.ld_unit_apply_of _ _ _ _ _ (ix4 d h x y) ?_
  intro a
  match a with
  | ⟨0, _⟩ => show d.val = d.val + 0; omega
  | ⟨1, _⟩ => show h.val = h.val + 0; omega
  | ⟨2, _⟩ => show x.val = 0 + x.val; omega
  | ⟨3, _⟩ => show y.val = 0 + y.val; omega

/-- One output piece: the chain of operations of a direction and a head is the head's columns of the output block. -/
theorem piece_out (d : Fin 2) (h : Fin 4) (L : Vec Ideal S2x4 .f32) (Q K V : Vec Ideal S64x512 .f32) (S : Vec Ideal S2x4x128x128 .f32) (z : S64x128.Idx) :
    chainOut (dmOf d (ldL L d h)) (qdOf d (ldL L d h)) (ldQ Q h) (ldQ K h) (ldQ V h) (ldS S d h) z
      = outG d L Q K V S ((Rect.unit (s := S64x512) ![0, 128 * h.val] ![64, 128] (inbQ h)).emb z) := by
  idx_vars z
  generalize z0 = i, z1 = y
  rw [chainOut_at]
  simp only [dmOf_at, qdOf_at, ldQ_at, ldS_at, ldL_at]
  have e : ((Rect.unit (s := S64x512) ![0, 128 * h.val] ![64, 128] (inbQ h)).emb (ix2 i y)) = ix2 i (hc h y) := by
    funext a
    match a with
    | ⟨0, _⟩ => exact Fin.ext (by show 0 + 1 * i.val = i.val; omega)
    | ⟨1, _⟩ => exact Fin.ext (by show 128 * h.val + 1 * y.val = 128 * h.val + y.val; omega)
  rw [e]
  show _ = kOut d L Q K V S ⟨(128 * h.val + y.val) / 128, _⟩ i ⟨(128 * h.val + y.val) % 128, _⟩
  have e1 : (⟨(128 * h.val + y.val) / 128, by omega⟩ : Fin 4) = h := Fin.ext (by show (128 * h.val + y.val) / 128 = h.val; omega)
  have e2 : (⟨(128 * h.val + y.val) % 128, by omega⟩ : Fin 128) = y := Fin.ext (by show (128 * h.val + y.val) % 128 = y.val; omega)
  rw [e1, e2]
  rfl

/-- One piece of the state: the chain of operations of a direction and a head is its part of the new state. -/
theorem piece_st (d : Fin 2) (h : Fin 4) (L : Vec Ideal S2x4 .f32) (K0 V0 K1 V1 : Vec Ideal S64x512 .f32) (S : Vec Ideal S2x4x128x128 .f32)
    (z : S1x1x128x128.Idx) :
    chainState (kdOf d (ldL L d h)) (k0_pay9 (F := Ideal) (ldL L d h)) (ldQ (sel d K0 K1) h) (ldQ (sel d V0 V1) h) (ldS S d h) z
      = stG L K0 V0 K1 V1 S ((Rect.unit (s := S2x4x128x128) ![d.val, h.val, 0, 0] ![1, 1, 128, 128] (inbS d h)).emb z) := by
  idx_vars z
  obtain rfl : z0 = 0 := Fin.ext (by omega)
  obtain rfl : z1 = 0 := Fin.ext (by omega)
  generalize z2 = x, z3 = y
  rw [chainState_at]
  simp only [kdOf_at, cd_at, ldQ_at, ldS_at, ldL_at]
  have e : ((Rect.unit (s := S2x4x128x128) ![d.val, h.val, 0, 0] ![1, 1, 128, 128] (inbS d h)).emb (ix4 0 0 x y)) = ix4 d h x y := by
    funext a
    match a with
    | ⟨0, _⟩ => rfl
    | ⟨1, _⟩ => rfl
    | ⟨2, _⟩ => exact Fin.ext (by show 0 + 1 * x.val = x.val; omega)
    | ⟨3, _⟩ => exact Fin.ext (by show 0 + 1 * y.val = y.val; omega)
  rw [e]
  rfl

end Cert.KernelIdeal.Ret
end
-- ==== Proof.RetCases.lean ====
/- Retention scan: the output blocks and the state after a grid point, over the state before it. -/
module

public import proofs.«01_k».proof.Proof.RetPoint

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Retention

variable (m : (ℓ : Loc nD τ sig) → Buf (Elt Ideal) ℓ)

/-- Four pieces that tile a 64 by 512 block are the block they are pieces of. -/
theorem canon4 (G : Vec Ideal S64x512 .f32) (a b c d : View.Piece (Elt Ideal) S64x512 .f32) (h : View.PiecesOf G [a, b, c, d])
    (ht : ∀ y : S64x512.Idx, ∃ p ∈ [a, b, c, d], y ∈ p.1.set) : View.canon [a, b, c, d] = G :=
  funext fun y => View.canon_append_of_piecesOf G [] [a, b, c, d] h y (ht y)
/-- Eight pieces that tile the state are the state they are pieces of. -/
theorem canon8 (G : Vec Ideal S2x4x128x128 .f32) (a b c d a' b' c' d' : View.Piece (Elt Ideal) S2x4x128x128 .f32)
    (L : List (View.Piece (Elt Ideal) S2x4x128x128 .f32)) (h : View.PiecesOf G [a, b, c, d, a', b', c', d'])
    (ht : ∀ y : S2x4x128x128.Idx, ∃ p ∈ [a, b, c, d, a', b', c', d'], y ∈ p.1.set) : View.canon (a :: b :: c :: d :: a' :: b' :: c' :: d' :: L) = G :=
  funext fun y => View.canon_append_of_piecesOf G L [a, b, c, d, a', b', c', d'] h y (ht y)

/-- The state as the body loads it, all of it: what the pieces written so far hold. -/
theorem readAll (v : View sig .tc .vmem S2x4x128x128 .f32) (L : List (View.Piece (Elt Ideal) S2x4x128x128 .f32)) (G : Vec Ideal S2x4x128x128 .f32)
    (inb : ∀ a, (![0, 0, 0, 0] : Fin 4 → ℕ) a + (![2, 4, 128, 128] : Fin 4 → ℕ) a ≤ S2x4x128x128.size a) (h : View.canon L = G) :
    v.readCov L (Rect.unit (s := S2x4x128x128) ![0, 0, 0, 0] ![2, 4, 128, 128] inb).toLoadRect = G := by
  rw [View.readCov_eq_canon', h]
  funext j
  refine congrArg G (funext fun a => Fin.ext ?_)
  match a with
  | ⟨0, _⟩ => exact (by show 0 + 1 * (j 0).val = (j 0).val; omega)
  | ⟨1, _⟩ => exact (by show 0 + 1 * (j 1).val = (j 1).val; omega)
  | ⟨2, _⟩ => exact (by show 0 + 1 * (j 2).val = (j 2).val; omega)
  | ⟨3, _⟩ => exact (by show 0 + 1 * (j 3).val = (j 3).val; omega)

/-- The state after the grid point `n`. -/
abbrev scr (c : Dev nD) (n : ℕ) (h : n < cfg0.N) : Vec Ideal S2x4x128x128 .f32 := (outsAt0 m c n h).2.2.2
/-- The state before a point that is not the first of its sequence: what the point before left. -/
abbrev prev (c : Dev nD) (t : Fin cfg0.N) : Vec Ideal S2x4x128x128 .f32 := scr m c (t.val - 1) (Nat.lt_of_le_of_lt (Nat.sub_le _ _) t.isLt)
/-- The new state at a point, over the state before it. -/
abbrev stAt (c : Dev nD) (t : Fin cfg0.N) (S : Vec Ideal S2x4x128x128 .f32) : Vec Ideal S2x4x128x128 .f32 :=
  stG (iblk m c 0 t) (iblk m c 2 t) (X0_3 m c t) (iblk m c 5 t) (X0_6 m c t) S
/-- The first direction's output at a point, over the state before it. -/
abbrev ofAt (c : Dev nD) (t : Fin cfg0.N) (S : Vec Ideal S2x4x128x128 .f32) : Vec Ideal S64x512 .f32 :=
  outG 0 (iblk m c 0 t) (iblk m c 1 t) (iblk m c 2 t) (X0_3 m c t) S
/-- The second direction's output at a point, over the state before it. -/
abbrev obAt (c : Dev nD) (t : Fin cfg0.N) (S : Vec Ideal S2x4x128x128 .f32) : Vec Ideal S64x512 .f32 :=
  outG 1 (iblk m c 0 t) (iblk m c 4 t) (iblk m c 5 t) (X0_6 m c t) S

/-- The first direction's output at the first point of a sequence. -/
theorem of_A (c : Dev nD) (t : Fin cfg0.N) (h0 : t.val % 4 = 0) (h1 : ¬t.val % 4 = 3) :
    (outsAt0 m c t.val t.isLt).1 = ofAt m c t (k0_pay3 (iblk m c 7 t)) := by
  rw [outsAt0_A m c t h0 h1]
  dsimp only
  frame_open
  simp (disch := decide) only [↓ View.readCov_skip, ↓ View.readCov_cons_toLoadRect, ↓ View.readCov_fill]
  frame_out
  refine canon4 _ _ _ _ _ ⟨?_, ?_, ?_, ?_, trivial⟩ (View.cover_of_tiledL _ ![64, 128] (by sl_kernel_rfl))
  · exact piece_out 0 3 _ _ _ _ _
  · exact piece_out 0 2 _ _ _ _ _
  · exact piece_out 0 1 _ _ _ _ _
  · exact piece_out 0 0 _ _ _ _ _

/-- The second direction's output at the first point of a sequence. -/
theorem ob_A (c : Dev nD) (t : Fin cfg0.N) (h0 : t.val % 4 = 0) (h1 : ¬t.val % 4 = 3) :
    (outsAt0 m c t.val t.isLt).2.1 = obAt m c t (k0_pay3 (iblk m c 7 t)) := by
  rw [outsAt0_A m c t h0 h1]
  dsimp only
  frame_open
  simp (disch := decide) only [↓ View.readCov_skip, ↓ View.readCov_cons_toLoadRect, ↓ View.readCov_fill]
  frame_out
  refine canon4 _ _ _ _ _ ⟨?_, ?_, ?_, ?_, trivial⟩ (View.cover_of_tiledL _ ![64, 128] (by sl_kernel_rfl))
  · exact piece_out 1 3 _ _ _ _ _
  · exact piece_out 1 2 _ _ _ _ _
  · exact piece_out 1 1 _ _ _ _ _
  · exact piece_out 1 0 _ _ _ _ _

/-- The state at the first point of a sequence. -/
theorem st_A (c : Dev nD) (t : Fin cfg0.N) (h0 : t.val % 4 = 0) (h1 : ¬t.val % 4 = 3) :
    (outsAt0 m c t.val t.isLt).2.2.2 = stAt m c t (k0_pay3 (iblk m c 7 t)) := by
  rw [outsAt0_A m c t h0 h1]
  dsimp only
  frame_open
  simp (disch := decide) only [↓ View.readCov_skip, ↓ View.readCov_cons_toLoadRect, ↓ View.readCov_fill]
  frame_out
  refine canon8 _ _ _ _ _ _ _ _ _ _ ⟨?_, ?_, ?_, ?_, ?_, ?_, ?_, ?_, trivial⟩ (View.cover_of_tiledL _ ![1, 1, 128, 128] (by sl_kernel_rfl))
  · exact piece_st 1 3 (iblk m c 0 t) (iblk m c 2 t) (X0_3 m c t) (iblk m c 5 t) (X0_6 m c t) (k0_pay3 (iblk m c 7 t))
  · exact piece_st 1 2 (iblk m c 0 t) (iblk m c 2 t) (X0_3 m c t) (iblk m c 5 t) (X0_6 m c t) (k0_pay3 (iblk m c 7 t))
  · exact piece_st 1 1 (iblk m c 0 t) (iblk m c 2 t) (X0_3 m c t) (iblk m c 5 t) (X0_6 m c t) (k0_pay3 (iblk m c 7 t))
  · exact piece_st 1 0 (iblk m c 0 t) (iblk m c 2 t) (X0_3 m c t) (iblk m c 5 t) (X0_6 m c t) (k0_pay3 (iblk m c 7 t))
  · exact piece_st 0 3 (iblk m c 0 t) (iblk m c 2 t) (X0_3 m c t) (iblk m c 5 t) (X0_6 m c t) (k0_pay3 (iblk m c 7 t))
  · exact piece_st 0 2 (iblk m c 0 t) (iblk m c 2 t) (X0_3 m c t) (iblk m c 5 t) (X0_6 m c t) (k0_pay3 (iblk m c 7 t))
  · exact piece_st 0 1 (iblk m c 0 t) (iblk m c 2 t) (X0_3 m c t) (iblk m c 5 t) (X0_6 m c t) (k0_pay3 (iblk m c 7 t))
  · exact piece_st 0 0 (iblk m c 0 t) (iblk m c 2 t) (X0_3 m c t) (iblk m c 5 t) (X0_6 m c t) (k0_pay3 (iblk m c 7 t))

/-- The first direction's output at a middle point of a sequence. -/
theorem of_B (c : Dev nD) (t : Fin cfg0.N) (h0 : ¬t.val % 4 = 0) (h1 : ¬t.val % 4 = 3) :
    (outsAt0 m c t.val t.isLt).1 = ofAt m c t (prev m c t) := by
  rw [outsAt0_B m c t h0 h1]
  dsimp only
  frame_open
  simp (disch := decide) only [↓ View.readCov_skip, ↓ View.readCov_cons_toLoadRect, ↓ View.readCov_fill]
  frame_out
  simp only [read_unread_whole]
  refine canon4 _ _ _ _ _ ⟨?_, ?_, ?_, ?_, trivial⟩ (View.cover_of_tiledL _ ![64, 128] (by sl_kernel_rfl))
  · exact piece_out 0 3 _ _ _ _ _
  · exact piece_out 0 2 _ _ _ _ _
  · exact piece_out 0 1 _ _ _ _ _
  · exact piece_out 0 0 _ _ _ _ _

/-- The second direction's output at a middle point of a sequence. -/
theorem ob_B (c : Dev nD) (t : Fin cfg0.N) (h0 : ¬t.val % 4 = 0) (h1 : ¬t.val % 4 = 3) :
    (outsAt0 m c t.val t.isLt).2.1 = obAt m c t (prev m c t) := by
  rw [outsAt0_B m c t h0 h1]
  dsimp only
  frame_open
  simp (disch := decide) only [↓ View.readCov_skip, ↓ View.readCov_cons_toLoadRect, ↓ View.readCov_fill]
  frame_out
  simp only [read_unread_whole]
  refine canon4 _ _ _ _ _ ⟨?_, ?_, ?_, ?_, trivial⟩ (View.cover_of_tiledL _ ![64, 128] (by sl_kernel_rfl))
  · exact piece_out 1 3 _ _ _ _ _
  · exact piece_out 1 2 _ _ _ _ _
  · exact piece_out 1 1 _ _ _ _ _
  · exact piece_out 1 0 _ _ _ _ _

/-- The state at a middle point of a sequence. -/
theorem st_B (c : Dev nD) (t : Fin cfg0.N) (h0 : ¬t.val % 4 = 0) (h1 : ¬t.val % 4 = 3) :
    (outsAt0 m c t.val t.isLt).2.2.2 = stAt m c t (prev m c t) := by
  rw [outsAt0_B m c t h0 h1]
  dsimp only
  frame_open
  simp (disch := decide) only [↓ View.readCov_skip, ↓ View.readCov_cons_toLoadRect, ↓ View.readCov_fill]
  frame_out
  simp only [read_unread_whole]
  refine canon8 _ _ _ _ _ _ _ _ _ _ ⟨?_, ?_, ?_, ?_, ?_, ?_, ?_, ?_, trivial⟩ (View.cover_of_tiledL _ ![1, 1, 128, 128] (by sl_kernel_rfl))
  · exact piece_st 1 3 (iblk m c 0 t) (iblk m c 2 t) (X0_3 m c t) (iblk m c 5 t) (X0_6 m c t) (prev m c t)
  · exact piece_st 1 2 (iblk m c 0 t) (iblk m c 2 t) (X0_3 m c t) (iblk m c 5 t) (X0_6 m c t) (prev m c t)
  · exact piece_st 1 1 (iblk m c 0 t) (iblk m c 2 t) (X0_3 m c t) (iblk m c 5 t) (X0_6 m c t) (prev m c t)
  · exact piece_st 1 0 (iblk m c 0 t) (iblk m c 2 t) (X0_3 m c t) (iblk m c 5 t) (X0_6 m c t) (prev m c t)
  · exact piece_st 0 3 (iblk m c 0 t) (iblk m c 2 t) (X0_3 m c t) (iblk m c 5 t) (X0_6 m c t) (prev m c t)
  · exact piece_st 0 2 (iblk m c 0 t) (iblk m c 2 t) (X0_3 m c t) (iblk m c 5 t) (X0_6 m c t) (prev m c t)
  · exact piece_st 0 1 (iblk m c 0 t) (iblk m c 2 t) (X0_3 m c t) (iblk m c 5 t) (X0_6 m c t) (prev m c t)
  · exact piece_st 0 0 (iblk m c 0 t) (iblk m c 2 t) (X0_3 m c t) (iblk m c 5 t) (X0_6 m c t) (prev m c t)

/-- The first direction's output at the last point of a sequence. -/
theorem of_C (c : Dev nD) (t : Fin cfg0.N) (h0 : ¬t.val % 4 = 0) (h1 : t.val % 4 = 3) :
    (outsAt0 m c t.val t.isLt).1 = ofAt m c t (prev m c t) := by
  rw [outsAt0_C m c t h0 h1]
  dsimp only
  frame_open
  simp (disch := decide) only [↓ View.readCov_skip, ↓ View.readCov_cons_toLoadRect, ↓ View.readCov_fill]
  frame_out
  simp only [read_unread_whole]
  refine canon4 _ _ _ _ _ ⟨?_, ?_, ?_, ?_, trivial⟩ (View.cover_of_tiledL _ ![64, 128] (by sl_kernel_rfl))
  · exact piece_out 0 3 _ _ _ _ _
  · exact piece_out 0 2 _ _ _ _ _
  · exact piece_out 0 1 _ _ _ _ _
  · exact piece_out 0 0 _ _ _ _ _

/-- The second direction's output at the last point of a sequence. -/
theorem ob_C (c : Dev nD) (t : Fin cfg0.N) (h0 : ¬t.val % 4 = 0) (h1 : t.val % 4 = 3) :
    (outsAt0 m c t.val t.isLt).2.1 = obAt m c t (prev m c t) := by
  rw [outsAt0_C m c t h0 h1]
  dsimp only
  frame_open
  simp (disch := decide) only [↓ View.readCov_skip, ↓ View.readCov_cons_toLoadRect, ↓ View.readCov_fill]
  frame_out
  simp only [read_unread_whole]
  refine canon4 _ _ _ _ _ ⟨?_, ?_, ?_, ?_, trivial⟩ (View.cover_of_tiledL _ ![64, 128] (by sl_kernel_rfl))
  · exact piece_out 1 3 _ _ _ _ _
  · exact piece_out 1 2 _ _ _ _ _
  · exact piece_out 1 1 _ _ _ _ _
  · exact piece_out 1 0 _ _ _ _ _

/-- The state at the last point of a sequence. -/
theorem st_C (c : Dev nD) (t : Fin cfg0.N) (h0 : ¬t.val % 4 = 0) (h1 : t.val % 4 = 3) :
    (outsAt0 m c t.val t.isLt).2.2.2 = stAt m c t (prev m c t) := by
  rw [outsAt0_C m c t h0 h1]
  dsimp only
  frame_open
  simp (disch := decide) only [↓ View.readCov_skip, ↓ View.readCov_cons_toLoadRect, ↓ View.readCov_fill]
  frame_out
  simp only [read_unread_whole]
  refine canon8 _ _ _ _ _ _ _ _ _ _ ⟨?_, ?_, ?_, ?_, ?_, ?_, ?_, ?_, trivial⟩ (View.cover_of_tiledL _ ![1, 1, 128, 128] (by sl_kernel_rfl))
  · exact piece_st 1 3 (iblk m c 0 t) (iblk m c 2 t) (X0_3 m c t) (iblk m c 5 t) (X0_6 m c t) (prev m c t)
  · exact piece_st 1 2 (iblk m c 0 t) (iblk m c 2 t) (X0_3 m c t) (iblk m c 5 t) (X0_6 m c t) (prev m c t)
  · exact piece_st 1 1 (iblk m c 0 t) (iblk m c 2 t) (X0_3 m c t) (iblk m c 5 t) (X0_6 m c t) (prev m c t)
  · exact piece_st 1 0 (iblk m c 0 t) (iblk m c 2 t) (X0_3 m c t) (iblk m c 5 t) (X0_6 m c t) (prev m c t)
  · exact piece_st 0 3 (iblk m c 0 t) (iblk m c 2 t) (X0_3 m c t) (iblk m c 5 t) (X0_6 m c t) (prev m c t)
  · exact piece_st 0 2 (iblk m c 0 t) (iblk m c 2 t) (X0_3 m c t) (iblk m c 5 t) (X0_6 m c t) (prev m c t)
  · exact piece_st 0 1 (iblk m c 0 t) (iblk m c 2 t) (X0_3 m c t) (iblk m c 5 t) (X0_6 m c t) (prev m c t)
  · exact piece_st 0 0 (iblk m c 0 t) (iblk m c 2 t) (X0_3 m c t) (iblk m c 5 t) (X0_6 m c t) (prev m c t)

/-- The written state at the last point of a sequence. -/
theorem sf_C (c : Dev nD) (t : Fin cfg0.N) (h0 : ¬t.val % 4 = 0) (h1 : t.val % 4 = 3) :
    (outsAt0 m c t.val t.isLt).2.2.1 = k0_pay2 (stAt m c t (prev m c t)) := by
  rw [outsAt0_C m c t h0 h1]
  dsimp only
  frame_open
  simp (disch := decide) only [↓ View.readCov_skip, ↓ View.readCov_cons_toLoadRect, ↓ View.readCov_fill]
  frame_out
  simp only [read_unread_whole]
  refine congrArg (k0_pay2 (F := Ideal)) (readAll _ _ _ _ ?_)
  refine canon8 _ _ _ _ _ _ _ _ _ _ ⟨?_, ?_, ?_, ?_, ?_, ?_, ?_, ?_, trivial⟩ (View.cover_of_tiledL _ ![1, 1, 128, 128] (by sl_kernel_rfl))
  · exact piece_st 1 3 (iblk m c 0 t) (iblk m c 2 t) (X0_3 m c t) (iblk m c 5 t) (X0_6 m c t) (prev m c t)
  · exact piece_st 1 2 (iblk m c 0 t) (iblk m c 2 t) (X0_3 m c t) (iblk m c 5 t) (X0_6 m c t) (prev m c t)
  · exact piece_st 1 1 (iblk m c 0 t) (iblk m c 2 t) (X0_3 m c t) (iblk m c 5 t) (X0_6 m c t) (prev m c t)
  · exact piece_st 1 0 (iblk m c 0 t) (iblk m c 2 t) (X0_3 m c t) (iblk m c 5 t) (X0_6 m c t) (prev m c t)
  · exact piece_st 0 3 (iblk m c 0 t) (iblk m c 2 t) (X0_3 m c t) (iblk m c 5 t) (X0_6 m c t) (prev m c t)
  · exact piece_st 0 2 (iblk m c 0 t) (iblk m c 2 t) (X0_3 m c t) (iblk m c 5 t) (X0_6 m c t) (prev m c t)
  · exact piece_st 0 1 (iblk m c 0 t) (iblk m c 2 t) (X0_3 m c t) (iblk m c 5 t) (X0_6 m c t) (prev m c t)
  · exact piece_st 0 0 (iblk m c 0 t) (iblk m c 2 t) (X0_3 m c t) (iblk m c 5 t) (X0_6 m c t) (prev m c t)

end Cert.KernelIdeal.Ret
end
-- ==== Proof.RetRead.lean ====
/- Retention scan: which rows of the arrays a grid point's blocks hold, and the state and outputs after every grid
   point. Grid point `4 b + n` is chunk `n` of sequence `b`; the second direction takes the sequence's chunks, and the
   rows in a chunk, from the end. -/
module

public import proofs.«01_k».proof.Proof.RetCases

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Retention

variable (m : (ℓ : Loc nD τ sig) → Buf (Elt Ideal) ℓ)

/-- The queries. -/
abbrev aq (c : Dev nD) (r : Fin 12288) (x : Fin 512) : EReal := (m ((c : Thread nD τ).loc main_arg0) : Vec Ideal S12288x512 .f32) (ix2 r x)
/-- The keys. -/
abbrev ak (c : Dev nD) (r : Fin 12288) (x : Fin 512) : EReal := (m ((c : Thread nD τ).loc main_arg1) : Vec Ideal S12288x512 .f32) (ix2 r x)
/-- The projection the values lie in. -/
abbrev av (c : Dev nD) (r : Fin 12288) (x : Fin 9856) : EReal := (m ((c : Thread nD τ).loc main_arg2) : Vec Ideal S12288x9856 .f32) (ix2 r x)
/-- The decay parameters. -/
abbrev aw (c : Dev nD) (d : Fin 2) (h : Fin 4) : EReal := (m ((c : Thread nD τ).loc main_arg3) : Vec Ideal S2x4 .f32) (ix2 d h)

/-- Which block each window is on at a grid point. -/
theorem idx : ∀ t : Fin grid0.N, win0_0.index t 0 = 0 ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 12
    ∧ win0_4.index t 0 = 4 * (t.val / 4) + (3 - t.val % 4) ∧ win0_4.index t 1 = 0
    ∧ win0_5.index t 0 = 4 * (t.val / 4) + (3 - t.val % 4) ∧ win0_5.index t 1 = 0
    ∧ win0_6.index t 0 = 4 * (t.val / 4) + (3 - t.val % 4) ∧ win0_6.index t 1 = 12
    ∧ win0_7.index t 0 = t.val / 4 ∧ win0_7.index t 1 = 0 ∧ win0_7.index t 2 = 0 ∧ win0_7.index t 3 = 0 ∧ win0_7.index t 4 = 0 := by
  decide +kernel

/-- The log decays. -/
theorem l_at (c : Dev nD) (t : Fin cfg0.N) (d : Fin 2) (h : Fin 4) : (iblk m c 0 t : Vec Ideal S2x4 .f32) (ix2 d h) = lg (aw m c) d h := by
  rw [iblk, View.read_apply]
  entry_read
  pointwise [lg]
  refine congrArg (fun z : EReal => -Ideal.exp z)
    (?_ : (m ((c : Thread nD τ).loc main_arg3) : Vec Ideal S2x4 .f32) ((win0_0.blk t).view.emb (ix2 d h)) = aw m c d h)
  blk_ext [idx t]

/-- The first direction's queries. -/
theorem q0_at (c : Dev nD) (t : Fin cfg0.N) (i : Fin 64) (x : Fin 512) (r : Fin 12288) (hr : r.val = 64 * t.val + i.val) :
    (iblk m c 1 t : Vec Ideal S64x512 .f32) (ix2 i x) = aq m c r x := by
  blk_point [iblk, V_main_arg0, idx t]

/-- The forward key block at an index. -/
theorem k0_at (c : Dev nD) (t : Fin cfg0.N) (i : Fin 64) (x : Fin 512) (r : Fin 12288) (hr : r.val = 64 * t.val + i.val) :
    (iblk m c 2 t : Vec Ideal S64x512 .f32) (ix2 i x) = ak m c r x := by
  blk_point [iblk, V_main_arg1, idx t]

/-- The backward query block at an index. -/
theorem q1_at (c : Dev nD) (t : Fin cfg0.N) (i : Fin 64) (x : Fin 512) (r : Fin 12288) (hr : r.val = 64 * (4 * (t.val / 4) + (3 - t.val % 4)) + i.val) :
    (iblk m c 4 t : Vec Ideal S64x512 .f32) (ix2 i x) = aq m c r x := by
  blk_point [iblk, V_main_arg0, idx t]

/-- The backward key block at an index. -/
theorem k1_at (c : Dev nD) (t : Fin cfg0.N) (i : Fin 64) (x : Fin 512) (r : Fin 12288) (hr : r.val = 64 * (4 * (t.val / 4) + (3 - t.val % 4)) + i.val) :
    (iblk m c 5 t : Vec Ideal S64x512 .f32) (ix2 i x) = ak m c r x := by
  blk_point [iblk, V_main_arg1, idx t]

/-- The forward value block at an index. -/
theorem v0_at (c : Dev nD) (t : Fin cfg0.N) (i : Fin 64) (x : Fin 512) (r : Fin 12288) (n : Fin 9856) (hr : r.val = 64 * t.val + i.val)
    (hn : n.val = 6144 + x.val) : (X0_3 m c t : Vec Ideal S64x512 .f32) (ix2 i x) = av m c r n := by
  unfold X0_3 Pipeline.Window.fill
  rw [dif_pos (moved0_3 t _)]
  blk_point [iblk, V_main_arg2, idx t]

/-- The backward value block at an index. -/
theorem v1_at (c : Dev nD) (t : Fin cfg0.N) (i : Fin 64) (x : Fin 512) (r : Fin 12288) (n : Fin 9856)
    (hr : r.val = 64 * (4 * (t.val / 4) + (3 - t.val % 4)) + i.val)
    (hn : n.val = 6144 + x.val) : (X0_6 m c t : Vec Ideal S64x512 .f32) (ix2 i x) = av m c r n := by
  unfold X0_6 Pipeline.Window.fill
  rw [dif_pos (moved0_6 t _)]
  blk_point [iblk, V_main_arg2, idx t]

/-- The starting state is zero. -/
theorem s0_at (c : Dev nD) (t : Fin cfg0.N) (d : Fin 2) (h : Fin 4) (x y : Fin 128) :
    k0_pay3 (F := Ideal) (iblk m c 7 t) (ix4 d h x y) = 0 := by
  pointwise [k0_pay3]
  rw [iblk, View.read_apply]
  entry_read
  pointwise
  rfl

/-- The state block written out, at an index. -/
theorem sf_at (S : Vec Ideal S2x4x128x128 .f32) (b : Fin 1) (d : Fin 2) (h : Fin 4) (x y : Fin 128) :
    k0_pay2 (F := Ideal) S (ix5 b d h x y) = S (ix4 d h x y) := by
  pointwise [k0_pay2]

/-- A sum over a block's rows is the sum over their places. -/
theorem sum_ps : ∀ (d : Fin 2) (f : Fin 64 → EReal), ∑ j : Fin 64, f (ps d j) = ∑ p : Fin 64, f p
  | 0, _ => rfl
  | 1, f => Equiv.sum_comp Fin.revPerm f

/-- The sequence a grid point works on. -/
def bt (t : Fin cfg0.N) : Fin 16 := ⟨t.val / 4, by have := t.isLt; have : cfg0.N = 64 := N_0; omega⟩

/-- The row of the first direction's token. -/
theorem tok0_val (t : Fin cfg0.N) (j : Fin 64) : (tok 0 (bt t) (t.val % 4) j).val = 64 * t.val + j.val := by
  have hN : cfg0.N = 64 := N_0
  have ht := t.isLt
  show (t.val / 4 * 256 + (64 * (t.val % 4) + j.val)) % 12288 = _
  omega
/-- The row of the second direction's token. -/
theorem tok1_val (t : Fin cfg0.N) (j : Fin 64) : (tok 1 (bt t) (t.val % 4) j.rev).val = 64 * (4 * (t.val / 4) + (3 - t.val % 4)) + j.val := by
  have hN : cfg0.N = 64 := N_0
  have ht := t.isLt
  show (t.val / 4 * 256 + (255 - (64 * (t.val % 4) + j.rev.val))) % 12288 = _
  rw [Fin.val_rev]
  omega

/-- The two columns agree. -/
theorem hc_eq (h : Fin 4) (x : Fin 128) : hc h x = col h x := Fin.ext (by show 128 * h.val + x.val = h.val * 128 + x.val; omega)

/-- The query of a row of a block. -/
theorem q_at (c : Dev nD) (t : Fin cfg0.N) : ∀ (d : Fin 2) (i : Fin 64) (h : Fin 4) (x : Fin 128),
    (sel d (iblk m c 1 t) (iblk m c 4 t) : Vec Ideal S64x512 .f32) (ix2 i (hc h x)) = aq m c (tok d (bt t) (t.val % 4) (ps d i)) (col h x)
  | 0, i, h, x => (q0_at m c t i _ _ (tok0_val t i)).trans (by rw [hc_eq]; rfl)
  | 1, i, h, x => (q1_at m c t i _ _ (tok1_val t i)).trans (by rw [hc_eq]; rfl)
/-- The key of a row of a block. -/
theorem k_at (c : Dev nD) (t : Fin cfg0.N) : ∀ (d : Fin 2) (i : Fin 64) (h : Fin 4) (x : Fin 128),
    (sel d (iblk m c 2 t) (iblk m c 5 t) : Vec Ideal S64x512 .f32) (ix2 i (hc h x)) = ak m c (tok d (bt t) (t.val % 4) (ps d i)) (col h x)
  | 0, i, h, x => (k0_at m c t i _ _ (tok0_val t i)).trans (by rw [hc_eq]; rfl)
  | 1, i, h, x => (k1_at m c t i _ _ (tok1_val t i)).trans (by rw [hc_eq]; rfl)
/-- The value of a row of a block. -/
theorem v_at (c : Dev nD) (t : Fin cfg0.N) : ∀ (d : Fin 2) (i : Fin 64) (h : Fin 4) (x : Fin 128),
    (sel d (X0_3 m c t) (X0_6 m c t) : Vec Ideal S64x512 .f32) (ix2 i (hc h x)) = av m c (tok d (bt t) (t.val % 4) (ps d i)) (vcol h x)
  | 0, i, h, x => v0_at m c t i _ _ (vcol h x) (tok0_val t i) (by rw [hc_eq]; rfl)
  | 1, i, h, x => v1_at m c t i _ _ (vcol h x) (tok1_val t i) (by rw [hc_eq]; rfl)

/-- The state before chunk `n` of the sequence, direction, head. -/
abbrev st (c : Dev nD) (d : Fin 2) (b : Fin 16) (h : Fin 4) (n : ℕ) (x y : Fin 128) : EReal := state (ak m c) (av m c) (aw m c) d b h n x y
/-- The output at a place of a chunk. -/
abbrev ot (c : Dev nD) (d : Fin 2) (b : Fin 16) (h : Fin 4) (n : ℕ) (i : Fin 64) (y : Fin 128) : EReal :=
  out (aq m c) (ak m c) (av m c) (aw m c) d b h n i y

/-- A point takes the state before its chunk to the state before the next. -/
theorem st_step (c : Dev nD) (t : Fin cfg0.N) (S : Vec Ideal S2x4x128x128 .f32) (d : Fin 2) (h : Fin 4) (x y : Fin 128)
    (hS : S (ix4 d h x y) = st m c d (bt t) h (t.val % 4) x y) :
    stAt m c t S (ix4 d h x y) = st m c d (bt t) h (t.val % 4 + 1) x y := by
  show kSt _ _ _ _ _ S d h x y = _
  unfold kSt
  rw [hS, l_at]
  simp only [k_at, v_at]
  rw [sum_ps d fun p => ak m c (tok d (bt t) (t.val % 4) p) (col h x) * pw (lg (aw m c) d h) (63 - p.val) * av m c (tok d (bt t) (t.val % 4) p) (vcol h y)]
  rfl

/-- A point's output, over the state before its chunk. -/
theorem out_step (c : Dev nD) (t : Fin cfg0.N) (S : Vec Ideal S2x4x128x128 .f32) (d : Fin 2) (h : Fin 4) (i : Fin 64) (y : Fin 128)
    (hS : ∀ x, S (ix4 d h x y) = st m c d (bt t) h (t.val % 4) x y) :
    kOut d (iblk m c 0 t) (sel d (iblk m c 1 t) (iblk m c 4 t)) (sel d (iblk m c 2 t) (iblk m c 5 t)) (sel d (X0_3 m c t) (X0_6 m c t)) S h i y
      = ot m c d (bt t) h (t.val % 4) (ps d i) y := by
  unfold kOut
  rw [l_at]
  simp only [k_at, v_at, q_at, hS]
  rw [sum_ps d fun p => ((∑ x : Fin 128, aq m c (tok d (bt t) (t.val % 4) (ps d i)) (col h x) * ak m c (tok d (bt t) (t.val % 4) p) (col h x))
    * dec (lg (aw m c) d h) (ps d i) p) * av m c (tok d (bt t) (t.val % 4) p) (vcol h y)]
  rfl

/-- The state before a point, as the body reads it. -/
def pre (c : Dev nD) (t : Fin cfg0.N) : Vec Ideal S2x4x128x128 .f32 := if t.val % 4 = 0 then k0_pay3 (F := Ideal) (iblk m c 7 t) else prev m c t

/-- The state after a point, over the state before it. -/
theorem scr_eq (c : Dev nD) (t : Fin cfg0.N) : scr m c t.val t.isLt = stAt m c t (pre m c t) := by
  unfold pre
  by_cases h0 : t.val % 4 = 0
  · rw [if_pos h0]; exact st_A m c t h0 (by omega)
  · rw [if_neg h0]
    by_cases h1 : t.val % 4 = 3
    · exact st_C m c t h0 h1
    · exact st_B m c t h0 h1
/-- The first direction's output at a point. -/
theorem of_eq (c : Dev nD) (t : Fin cfg0.N) : (outsAt0 m c t.val t.isLt).1 = ofAt m c t (pre m c t) := by
  unfold pre
  by_cases h0 : t.val % 4 = 0
  · rw [if_pos h0]; exact of_A m c t h0 (by omega)
  · rw [if_neg h0]
    by_cases h1 : t.val % 4 = 3
    · exact of_C m c t h0 h1
    · exact of_B m c t h0 h1
/-- The second direction's output at a point. -/
theorem ob_eq (c : Dev nD) (t : Fin cfg0.N) : (outsAt0 m c t.val t.isLt).2.1 = obAt m c t (pre m c t) := by
  unfold pre
  by_cases h0 : t.val % 4 = 0
  · rw [if_pos h0]; exact ob_A m c t h0 (by omega)
  · rw [if_neg h0]
    by_cases h1 : t.val % 4 = 3
    · exact ob_C m c t h0 h1
    · exact ob_B m c t h0 h1

/-- The state before every point. -/
theorem pre_at (c : Dev nD) : ∀ (n : ℕ) (hn : n < cfg0.N) (d : Fin 2) (h : Fin 4) (x y : Fin 128),
    pre m c ⟨n, hn⟩ (ix4 d h x y) = st m c d (bt ⟨n, hn⟩) h (n % 4) x y := by
  intro n
  induction n with
  | zero => intro hn d h x y; exact s0_at m c ⟨0, hn⟩ d h x y
  | succ n ih =>
    intro hn d h x y
    unfold pre
    by_cases h0 : (n + 1) % 4 = 0
    · rw [if_pos h0]
      refine (s0_at m c ⟨n + 1, hn⟩ d h x y).trans ?_
      rw [h0]
      rfl
    · rw [if_neg h0]
      have hn' : n < cfg0.N := Nat.lt_of_succ_lt hn
      refine (congrFun (scr_eq m c ⟨n, hn'⟩) _).trans ?_
      refine (st_step m c ⟨n, hn'⟩ _ d h x y (ih hn' d h x y)).trans ?_
      have e1 : bt ⟨n, hn'⟩ = bt ⟨n + 1, hn⟩ := Fin.ext (by show n / 4 = (n + 1) / 4; omega)
      have e2 : n % 4 + 1 = (n + 1) % 4 := by omega
      show st m c d (bt ⟨n, hn'⟩) h (n % 4 + 1) x y = _
      rw [e1, e2]

/-- The first direction's output block at every point. -/
theorem of_at (c : Dev nD) (t : Fin cfg0.N) (i : Fin 64) (o : Fin 512) : (outsAt0 m c t.val t.isLt).1 (ix2 i o)
    = ot m c 0 (bt t) ⟨o.val / 128, by omega⟩ (t.val % 4) i ⟨o.val % 128, by omega⟩ := by
  rw [of_eq]
  exact out_step m c t _ 0 _ i _ fun x => pre_at m c t.val t.isLt 0 _ x _
/-- The second direction's output block at every point. -/
theorem ob_at (c : Dev nD) (t : Fin cfg0.N) (i : Fin 64) (o : Fin 512) : (outsAt0 m c t.val t.isLt).2.1 (ix2 i o)
    = ot m c 1 (bt t) ⟨o.val / 128, by omega⟩ (t.val % 4) i.rev ⟨o.val % 128, by omega⟩ := by
  rw [ob_eq]
  exact out_step m c t _ 1 _ i _ fun x => pre_at m c t.val t.isLt 1 _ x _
/-- The state written at the last point of a sequence. -/
theorem sfin_at (c : Dev nD) (t : Fin cfg0.N) (h1 : t.val % 4 = 3) (b : Fin 1) (d : Fin 2) (h : Fin 4) (x y : Fin 128) :
    (outsAt0 m c t.val t.isLt).2.2.1 (ix5 b d h x y) = st m c d (bt t) h 4 x y := by
  have h0 : ¬ t.val % 4 = 0 := by omega
  rw [sf_C m c t h0 h1]
  refine (sf_at _ b d h x y).trans ?_
  have hp : pre m c t = prev m c t := by unfold pre; rw [if_neg h0]
  refine (st_step m c t _ d h x y (hp ▸ pre_at m c t.val t.isLt d h x y)).trans ?_
  rw [h1]

end Cert.KernelIdeal.Ret
end
-- ==== Proof.RetArrays.lean ====
/- Retention scan: the three result arrays after the kernel's run. The rows of the 16 sequences, below 4096, hold the
   outputs; the states after the last chunk fill the third array. -/
module

public import proofs.«01_k».proof.Proof.RetRead

@[expose] public section

set_option maxRecDepth 16384

noncomputable section

namespace Cert.KernelIdeal.Ret

open Cert.KernelIdeal Cert.KernelIdeal.Gen Idealize.ShloMosaic Idealize.ShloMosaic.TcCoe Idealize.SL.Sem
open Idealize.ShloMosaic.Pipeline (Dat)
open Cert.Retention

variable (m : (ℓ : Loc nD τ sig) → Buf (Elt Ideal) ℓ)

/-- The first direction's array. -/
def G8 (c : Dev nD) : Vec Ideal S12288x512 .f32 := fun y => ot m c 0 (seqOf (y 0)) (hd (y 1)) ((y 0).val % 256 / 64) (pl (y 0)) (ft (y 1))
/-- The second direction's array. -/
def G9 (c : Dev nD) : Vec Ideal S12288x512 .f32 := fun y => ot m c 1 (seqOf (y 0)) (hd (y 1)) (3 - (y 0).val % 256 / 64) (pl (y 0)).rev (ft (y 1))
/-- The final states. -/
def G10 (c : Dev nD) : Vec Ideal S16x2x4x128x128 .f32 := fun y => st m c (y 1) (y 0) (y 2) 4 (y 3) (y 4)

/-- Which block each result window is on at a grid point. -/
theorem idxo : ∀ t : Fin grid0.N, win0_8.index t 0 = t.val ∧ win0_8.index t 1 = 0
    ∧ win0_9.index t 0 = 4 * (t.val / 4) + (3 - t.val % 4) ∧ win0_9.index t 1 = 0
    ∧ win0_10.index t 0 = t.val / 4 ∧ win0_10.index t 1 = 0 ∧ win0_10.index t 2 = 0 ∧ win0_10.index t 3 = 0 ∧ win0_10.index t 4 = 0 := by
  decide +kernel

/-- A row of the first array's block at a point. -/
theorem G8_at (c : Dev nD) (t : Fin cfg0.N) (i : Fin 64) (o : Fin 512) (r : Fin 12288) (hr : r.val = 64 * t.val + i.val) :
    G8 m c (ix2 r o) = ot m c 0 (bt t) ⟨o.val / 128, by omega⟩ (t.val % 4) i ⟨o.val % 128, by omega⟩ := by
  have hN : cfg0.N = 64 := N_0
  have ht := t.isLt
  show ot m c 0 (seqOf r) (hd o) (r.val % 256 / 64) (pl r) (ft o) = _
  have e1 : seqOf r = bt t := Fin.ext (by show r.val / 256 % 16 = t.val / 4; omega)
  have e2 : r.val % 256 / 64 = t.val % 4 := by omega
  have e3 : pl r = i := Fin.ext (by show r.val % 64 = i.val; omega)
  rw [e1, e2, e3]
  rfl

/-- A row of the second array's block at a point. -/
theorem G9_at (c : Dev nD) (t : Fin cfg0.N) (i : Fin 64) (o : Fin 512) (r : Fin 12288)
    (hr : r.val = 64 * (4 * (t.val / 4) + (3 - t.val % 4)) + i.val) :
    G9 m c (ix2 r o) = ot m c 1 (bt t) ⟨o.val / 128, by omega⟩ (t.val % 4) i.rev ⟨o.val % 128, by omega⟩ := by
  have hN : cfg0.N = 64 := N_0
  have ht := t.isLt
  show ot m c 1 (seqOf r) (hd o) (3 - r.val % 256 / 64) (pl r).rev (ft o) = _
  have e1 : seqOf r = bt t := Fin.ext (by show r.val / 256 % 16 = t.val / 4; omega)
  have e2 : 3 - r.val % 256 / 64 = t.val % 4 := by omega
  have e3 : pl r = i := Fin.ext (by show r.val % 64 = i.val; omega)
  rw [e1, e2, e3]
  rfl

/-- Where a point's block lies in the first array. -/
theorem emb8 (t : Fin cfg0.N) (i : Fin 64) (o : Fin 512) (r : Fin 12288) (hr : r.val = 64 * t.val + i.val) :
    (((View.whole main_v3_0).slice (win0_8.rect t)).emb (ix2 i o) : S12288x512.Idx) = ix2 r o := by
  blk_ext [idxo t]
/-- Where a point's block lies in the second array. -/
theorem emb9 (t : Fin cfg0.N) (i : Fin 64) (o : Fin 512) (r : Fin 12288) (hr : r.val = 64 * (4 * (t.val / 4) + (3 - t.val % 4)) + i.val) :
    (((View.whole main_v3_1).slice (win0_9.rect t)).emb (ix2 i o) : S12288x512.Idx) = ix2 r o := by
  blk_ext [idxo t]
/-- Where a point's block lies in the array of states. -/
theorem emb10 (t : Fin cfg0.N) (b : Fin 1) (d : Fin 2) (h : Fin 4) (x y : Fin 128) :
    (((View.whole main_v3_2).slice (win0_10.rect t)).emb (ix5 b d h x y) : S16x2x4x128x128.Idx) = ix5 (bt t) d h x y := by
  have hb : (bt t).val = t.val / 4 := rfl
  blk_ext [idxo t]

/-- The first direction's array below row 4096. -/
theorem arr8 (c : Dev nD) (r : Fin 12288) (o : Fin 512) (hr : r.val < 4096) :
    ((dats m 0 c).arrAt 8 cfg0.N : Vec Ideal S12288x512 .f32) (ix2 r o) = G8 m c (ix2 r o) := by
  have key : (dats m 0 c).arrAt 8 cfg0.N
      = fun i => if (i (0 : Fin 2)).val / 64 < 64 then G8 m c i else V m c main_v3_0 i := by
    refine (dats m 0 c).arrAt_eq_of_coversWhere 8 _ (fun β => β (0 : Fin 2) < 64) (by decide +kernel) (fun t hf y => ?_) (fun j => Iff.rfl)
    blk_simp
    rw [after0_8]
    idx_vars y
    have hN : cfg0.N = 64 := N_0
    have ht : t.val < cfg0.N := t.isLt
    refine (of_at m c t y0 y1).trans ?_
    refine ((congrArg (G8 m c) (emb8 t y0 y1 ⟨64 * t.val + y0.val, by omega⟩ rfl)).trans (G8_at m c t y0 y1 _ rfl)).symm
  rw [key]
  exact if_pos (by show r.val / 64 < 64; omega)

/-- The second direction's array below row 4096. -/
theorem arr9 (c : Dev nD) (r : Fin 12288) (o : Fin 512) (hr : r.val < 4096) :
    ((dats m 0 c).arrAt 9 cfg0.N : Vec Ideal S12288x512 .f32) (ix2 r o) = G9 m c (ix2 r o) := by
  have key : (dats m 0 c).arrAt 9 cfg0.N
      = fun i => if (i (0 : Fin 2)).val / 64 < 64 then G9 m c i else V m c main_v3_1 i := by
    refine (dats m 0 c).arrAt_eq_of_coversWhere 9 _ (fun β => β (0 : Fin 2) < 64) (by decide +kernel) (fun t hf y => ?_) (fun j => Iff.rfl)
    blk_simp
    rw [after0_9]
    idx_vars y
    have hN : cfg0.N = 64 := N_0
    have ht : t.val < cfg0.N := t.isLt
    refine (ob_at m c t y0 y1).trans ?_
    refine ((congrArg (G9 m c) (emb9 t y0 y1 ⟨64 * (4 * (t.val / 4) + (3 - t.val % 4)) + y0.val, by omega⟩ rfl)).trans (G9_at m c t y0 y1 _ rfl)).symm
  rw [key]
  exact if_pos (by show r.val / 64 < 64; omega)

/-- The array of states. -/
theorem arr10 (c : Dev nD) : (dats m 0 c).arrAt 10 cfg0.N = G10 m c := by
  refine (dats m 0 c).arrAt_eq_of_covers 10 _ (by decide +kernel) (fun t hf y => ?_)
  have h3 : t.val % 4 = 3 := (flush0_10 t).mp hf
  blk_simp
  rw [after0_10]
  idx_vars y
  exact (sfin_at m c t h3 y0 y1 y2 y3 y4).trans (congrArg (G10 m c) (emb10 t y0 y1 y2 y3 y4)).symm

end Cert.KernelIdeal.Ret
end
-- ==== Proof.RetRef.lean ====
/- Retention scan: the reference's arrays before its loop, read at an index. -/
module

public import proofs.«01_k».proof.Proof.RetSpec
public import proofs.«01_k».proof.Proof.Gen.ReferenceIdeal.Step
public import Idealize.ShloMosaic.Lib.Pipeline.ValueKit
public import Idealize.ShloMosaic.Lib.Pipeline.ReadBack

@[expose] public section

set_option maxRecDepth 16384

noncomputable section

namespace Cert.ReferenceIdeal.Ret

open Cert.ReferenceIdeal Cert.ReferenceIdeal.Gen Idealize.ShloMosaic Idealize.ShloMosaic.TcCoe Idealize.SL.Sem
open Cert.Retention Cert.ReferenceIdeal.Step

variable (a0 a1 : (⟨S12288x512, .f32⟩ : BufTy).Contents (Elt Ideal)) (a2 : (⟨S12288x9856, .f32⟩ : BufTy).Contents (Elt Ideal))
  (a3 : (⟨S2x4, .f32⟩ : BufTy).Contents (Elt Ideal))

/-- The log-decays. -/
abbrev glog (d : Fin 2) (h : Fin 4) : EReal := lg (fun d h => a3 (ix2 d h)) d h

/-- The reference's log-decays at an index. -/
theorem lg_at (d : Fin 2) (h : Fin 4) : (A_main_v9 a0 a1 a2 a3 : Vec Ideal S2x4 .f32) (ix2 d h) = glog a3 d h := by
  pointwise [A_main_v9, A_main_v8]
  rfl

/-- The place in its sequence of position `p` of chunk `n`, as a direction meets it. -/
def place (d : Fin 2) (n : Fin 4) (p : Fin 64) : Fin 256 :=
  if d = 0 then ⟨64 * n.val + p.val, by omega⟩ else ⟨255 - (64 * n.val + p.val), by omega⟩

/-- The number of a place. -/
theorem place_val (d : Fin 2) (n : Fin 4) (p : Fin 64) :
    (place d n p).val = if d = 0 then 64 * n.val + p.val else 255 - (64 * n.val + p.val) := by
  unfold place
  by_cases e : d = 0
  · rw [if_pos e, if_pos e]
  · rw [if_neg e, if_neg e]

/-- The number of a token. -/
theorem tok_val (d : Fin 2) (b : Fin 16) (n : ℕ) (p : Fin 64) :
    (tok d b n p).val = (b.val * 256 + (if d = 0 then 64 * n + p.val else 255 - (64 * n + p.val))) % 12288 := rfl

/-- The sequences' rows lie within the arrays. -/
theorem row_lt (b : Fin 16) (t : Fin 256) : b.val * 256 + t.val < 12288 := by omega

/-- The row of a place of a sequence. -/
def row (b : Fin 16) (t : Fin 256) : Fin 12288 := ⟨b.val * 256 + t.val, row_lt b t⟩

/-- The number of a place's token. -/
theorem tok_place_val (d : Fin 2) (b : Fin 16) (n : Fin 4) (p : Fin 64) : (tok d b n.val p).val = b.val * 256 + (place d n p).val := by
  rw [tok_val, ← place_val, Nat.mod_eq_of_lt (row_lt b _)]

/-- The token of a place. -/
theorem tok_place (d : Fin 2) (b : Fin 16) (n : Fin 4) (p : Fin 64) : tok d b n.val p = row b (place d n p) :=
  Fin.ext (tok_place_val d b n p)

/-- Both directions' readings of sequences, cut into chunks. -/
def cut (X : Vec Ideal S16x256x4x128 .f32) : Vec Ideal S2x16x4x64x4x128 .f32 :=
  shapeCast _ (concatenate S2x16x256x4x128 0 [⟨S1x16x256x4x128, broadcastInDim S1x16x256x4x128 ![1, 2, 3, 4] bcast_S16x256x4x128_S1x16x256x4x128_1_2_3_4 X⟩, ⟨S1x16x256x4x128, broadcastInDim S1x16x256x4x128 ![1, 2, 3, 4] bcast_S16x256x4x128_S1x16x256x4x128_1_2_3_4 (Host.reverse [1] X)⟩] concatenates_S1x16x256x4x128_S1x16x256x4x128_S2x16x256x4x128_d0) shapeCasts_S2x16x256x4x128_S2x16x4x64x4x128

/-- The chunks with the chunk first and the heads before the places. -/
def chunks (X : Vec Ideal S16x256x4x128 .f32) : Vec Ideal S4x2x16x4x64x128 .f32 :=
  transpose S4x2x16x4x64x128 [1, 0, 2, 3, 4, 5] (transpose S2x4x16x4x64x128 [0, 1, 2, 4, 3, 5] (transpose S2x4x16x64x4x128 [0, 2, 1, 3, 4, 5] (cut X) transposes_S2x16x4x64x4x128_S2x4x16x64x4x128_0_2_1_3_4_5) transposes_S2x4x16x64x4x128_S2x4x16x4x64x128_0_1_2_4_3_5) transposes_S2x4x16x4x64x128_S4x2x16x4x64x128_1_0_2_3_4_5

/-- A place of the forward direction. -/
theorem place_zero (n : Fin 4) (p : Fin 64) (h : n.val * 64 + p.val < 256) : (⟨n.val * 64 + p.val, h⟩ : Fin 256) = place 0 n p := by
  refine Fin.ext ?_
  rw [place_val, if_pos rfl]
  show n.val * 64 + p.val = _
  omega

/-- A place of the backward direction. -/
theorem place_one (n : Fin 4) (p : Fin 64) (h : n.val * 64 + p.val < 256) : (⟨n.val * 64 + p.val, h⟩ : Fin 256).rev = place 1 n p := by
  refine Fin.ext ?_
  rw [place_val, if_neg (by decide), Fin.val_rev]
  show 256 - (n.val * 64 + p.val + 1) = _
  omega

/-- An array of four axes read at equal coordinates. -/
theorem ix4_congr {n0 n1 n2 n3 : ℕ} {φ : EltTy} (X : Vec Ideal ⟨4, ![n0, n1, n2, n3]⟩ φ) {a a' : Fin n0} {b b' : Fin n1} {c c' : Fin n2} {d d' : Fin n3}
    (ha : a = a') (hb : b = b') (hc : c = c') (hd : d = d') : X (ix4 a b c d) = X (ix4 a' b' c' d') := by
  rw [ha, hb, hc, hd]

/-- The cut readings at an index. -/
theorem cut_at (X : Vec Ideal S16x256x4x128 .f32) (n : Fin 4) (d : Fin 2) (b : Fin 16) (h : Fin 4) (p : Fin 64) (x : Fin 128) :
    cut X (ix6 d b n p h x) = X (ix4 b (place d n p) h x) := by
  pointwise [cut]
  by_cases e : d.val < 1
  · obtain rfl : d = 0 := Fin.ext (by omega)
    rw [dif_pos e, place_zero]
  · obtain rfl : d = 1 := Fin.ext (by omega)
    rw [dif_neg e, ← place_one n p (by omega)]
    exact ix4_congr X (if_neg (by decide)) (if_pos (by decide)) (if_neg (by decide)) (if_neg (by decide))

/-- The chunks brought before the sequences, at an index. -/
theorem chunk_second (X : Vec Ideal S2x16x4x64x4x128 .f32) (d : Fin 2) (n : Fin 4) (b : Fin 16) (p : Fin 64) (h : Fin 4) (x : Fin 128) :
    (transpose S2x4x16x64x4x128 [0, 2, 1, 3, 4, 5] X transposes_S2x16x4x64x4x128_S2x4x16x64x4x128_0_2_1_3_4_5) (ix6 d n b p h x) = X (ix6 d b n p h x) := by
  pointwise

/-- The heads brought before the places, at an index. -/
theorem head_third (X : Vec Ideal S2x4x16x64x4x128 .f32) (d : Fin 2) (n : Fin 4) (b : Fin 16) (h : Fin 4) (p : Fin 64) (x : Fin 128) :
    (transpose S2x4x16x4x64x128 [0, 1, 2, 4, 3, 5] X transposes_S2x4x16x64x4x128_S2x4x16x4x64x128_0_1_2_4_3_5) (ix6 d n b h p x) = X (ix6 d n b p h x) := by
  pointwise

/-- The chunks brought to the front, at an index. -/
theorem chunk_first (X : Vec Ideal S2x4x16x4x64x128 .f32) (n : Fin 4) (d : Fin 2) (b : Fin 16) (h : Fin 4) (p : Fin 64) (x : Fin 128) :
    (transpose S4x2x16x4x64x128 [1, 0, 2, 3, 4, 5] X transposes_S2x4x16x4x64x128_S4x2x16x4x64x128_1_0_2_3_4_5) (ix6 n d b h p x) = X (ix6 d n b h p x) := by
  pointwise

/-- The chunks at an index. -/
theorem chunks_at (X : Vec Ideal S16x256x4x128 .f32) (n : Fin 4) (d : Fin 2) (b : Fin 16) (h : Fin 4) (p : Fin 64) (x : Fin 128) :
    chunks X (ix6 n d b h p x) = X (ix4 b (place d n p) h x) := by
  rw [chunks, chunk_first, head_third, chunk_second, cut_at]

/-- The reference's query chunks at an index. -/
theorem q_at (n : Fin 4) (d : Fin 2) (b : Fin 16) (h : Fin 4) (p : Fin 64) (x : Fin 128) :
    (A_main_v71 a0 a1 a2 a3 : Vec Ideal S4x2x16x4x64x128 .f32) (ix6 n d b h p x) = a0 (ix2 (tok d b n.val p) (col h x)) := by
  refine (chunks_at (A_main_v1 a0 a1 a2 a3) n d b h p x).trans ?_
  rw [tok_place]
  pointwise [A_main_v1, A_main_v0]
  rfl

/-- The reference's key chunks at an index. -/
theorem k_at (n : Fin 4) (d : Fin 2) (b : Fin 16) (h : Fin 4) (p : Fin 64) (x : Fin 128) :
    (A_main_v72 a0 a1 a2 a3 : Vec Ideal S4x2x16x4x64x128 .f32) (ix6 n d b h p x) = a1 (ix2 (tok d b n.val p) (col h x)) := by
  refine (chunks_at (A_main_v3 a0 a1 a2 a3) n d b h p x).trans ?_
  rw [tok_place]
  pointwise [A_main_v3, A_main_v2]
  rfl

/-- The reference's value chunks at an index. -/
theorem v_at (n : Fin 4) (d : Fin 2) (b : Fin 16) (h : Fin 4) (p : Fin 64) (x : Fin 128) :
    (A_main_v73 a0 a1 a2 a3 : Vec Ideal S4x2x16x4x64x128 .f32) (ix6 n d b h p x) = a2 (ix2 (tok d b n.val p) (vcol h x)) := by
  refine (chunks_at (A_main_v6 a0 a1 a2 a3) n d b h p x).trans ?_
  rw [tok_place]
  pointwise [A_main_v6, A_main_v5, A_main_v4]
  rfl

/-- The decay between two positions, minus infinity standing for what is not seen. -/
theorem masked_exp (g : EReal) (i j : Fin 64) :
    Ideal.exp (if (0 : EReal) ≤ ((((i.val : ℕ) : ℤ) : ℝ) : EReal) - ((((j.val : ℕ) : ℤ) : ℝ) : EReal)
      then (((((i.val : ℕ) : ℤ) : ℝ) : EReal) - ((((j.val : ℕ) : ℤ) : ℝ) : EReal)) * g else ⊥) = dec g i j := by
  rw [← EReal.coe_sub, Int.cast_natCast, Int.cast_natCast, dec, pw]
  by_cases h : j.val ≤ i.val
  · rw [if_pos h, Nat.cast_sub h, if_pos]
    exact EReal.coe_nonneg.2 (sub_nonneg.2 (Nat.cast_le.2 h))
  · rw [if_neg h, if_neg]
    · rfl
    · intro hc
      exact h (Nat.cast_le.1 (sub_nonneg.1 (EReal.coe_nonneg.1 hc)))

/-- The reference's decay table at an index. -/
theorem dec_at (d : Fin 2) (h : Fin 4) (i j : Fin 64) : (A_main_v47 a0 a1 a2 a3 : Vec Ideal S2x4x64x64 .f32) (ix4 d h i j)
    = dec (glog a3 d h) i j := by
  pointwise [A_main_v47, A_main_v46, A_main_v45, A_main_v44, A_main_v40, A_main_v32, K_main_call3_v4, K_main_call3_v3, K_main_call3_v2, K_main_call3_v1, K_main_call3_v0, K_main_cst_1,
    K_main_v43, K_main_v42, K_main_v41, K_main_v39, K_main_v38, K_main_v37, K_main_v36, K_main_v35, K_main_v34, K_main_v33, K_main_v31, K_main_cst_0, lg_at]
  rw [sitofp_at, sitofp_at, pos_toInt, pos_toInt, show id (constant (F := Ideal) S_ FTy.f32 4286578688#32) ix0 = (⊥ : EReal) from by
    show Ideal.ofBits .f32 4286578688#32 = ⊥
    simp [Ideal.ofBits, Ideal.ieee]]
  exact masked_exp _ i j

/-- The reference's decay of the queries at an index. -/
theorem qd_at (d : Fin 2) (h : Fin 4) (i : Fin 64) : (A_main_v56 a0 a1 a2 a3 : Vec Ideal S2x1x4x64x1 .f32) (ix5 d 0 h i 0)
    = pw (glog a3 d h) (i.val + 1) := by
  pointwise [A_main_v56, A_main_v55, A_main_v54, A_main_v53, A_main_v32, K_main_v52, K_main_v51, K_main_v50, K_main_v49, K_main_v48, K_main_v31, K_main_cst_2, lg_at]
  rw [sitofp_at, pos_toInt]
  exact add_one_pw _ i.val

/-- The reference's decay of the keys at an index. -/
theorem kd_at (d : Fin 2) (h : Fin 4) (i : Fin 64) : (A_main_v65 a0 a1 a2 a3 : Vec Ideal S2x1x4x64x1 .f32) (ix5 d 0 h i 0)
    = pw (glog a3 d h) (63 - i.val) := by
  pointwise [A_main_v65, A_main_v64, A_main_v63, A_main_v62, A_main_v32, K_main_v61, K_main_v60, K_main_v59, K_main_v58, K_main_v57, K_main_v31, K_main_cst_3, lg_at]
  rw [sitofp_at, pos_toInt, ofBits_63]
  exact sub_pw _ i

/-- The reference's decay of the state over a chunk. -/
theorem cd_at (d : Fin 2) (h : Fin 4) : (A_main_v69 a0 a1 a2 a3 : Vec Ideal S2x1x4x1x1 .f32) (ix5 d 0 h 0 0)
    = pw (glog a3 d h) 64 := by
  pointwise [A_main_v69, A_main_v68, A_main_v67, K_main_v66, K_main_cst_4, lg_at]
  rw [ofBits_64, pw]
  rfl

/-- The state before the loop is zero. -/
theorem s_at (d : Fin 2) (b : Fin 16) (h : Fin 4) (x y : Fin 128) : (K_main_v70 : Vec Ideal S2x16x4x128x128 .f32) (ix5 d b h x y) = 0 := by
  pointwise [K_main_v70, K_main_v7, K_main_cst]

end Cert.ReferenceIdeal.Ret
end
-- ==== Proof.RetLoop.lean ====
/- Retention scan: the reference's loop over the chunks, and its results, read at an index. -/
module

public import proofs.«01_k».proof.Proof.RetRef
public import proofs.«01_k».proof.Proof.Gen.ReferenceIdeal.Run
public import Idealize.ShloMosaic.Lib.WordCmp

@[expose] public section

set_option maxRecDepth 16384

noncomputable section

namespace Cert.ReferenceIdeal.Ret

open Cert.ReferenceIdeal Cert.ReferenceIdeal.Gen Idealize.ShloMosaic Idealize.ShloMosaic.TcCoe Idealize.SL.Sem
open Idealize.ShloMosaic.StableHlo Idealize.ShloMosaic.Tactic
open Cert.Retention Cert.ReferenceIdeal.Step Cert.ReferenceIdeal.Value

/-- Where the loop reads and writes: the counter's chunk. -/
abbrev starts (cnt : (⟨S_, .i32⟩ : BufTy).Contents (Elt Ideal)) : Fin 6 → Int := fun k =>
  (((![cnt, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt

/-- The counter's chunk as numbers. -/
theorem starts_eq (n : Fin 4) (a : Fin 6) : starts (fun _ => BitVec.ofNat 32 n.val) a = ((![n.val, 0, 0, 0, 0, 0] : Fin 6 → ℕ) a : Int) := by
  have h : (BitVec.ofNat 32 n.val).toInt = (n.val : Int) := by revert n; decide
  fin_cases a
  · exact h
  all_goals rfl

/-- A chunk lies within the array of chunks. -/
theorem chunk_fits (n : Fin 4) : S4x2x16x4x64x128.Slices ![n.val, 0, 0, 0, 0, 0] S1x2x16x4x64x128 := by
  revert n; decide

/-- The chunk read at the counter. -/
theorem read_at (X : Vec Ideal S4x2x16x4x64x128 .f32) (n : Fin 4) (d : Fin 2) (b : Fin 16) (h : Fin 4) (p : Fin 64) (x : Fin 128) :
    shapeCast S2x16x4x64x128 (Host.dynamicSlice S1x2x16x4x64x128 X (starts (fun _ => BitVec.ofNat 32 n.val)) sliceFits_S4x2x16x4x64x128_S1x2x16x4x64x128)
      shapeCasts_S1x2x16x4x64x128_S2x16x4x64x128 (ix5 d b h p x) = X (ix6 n d b h p x) := by
  rw [WordCmp.dynamicSlice_eq_extract _ X _ _ ![n.val, 0, 0, 0, 0, 0] (chunk_fits n) (starts_eq n)]
  pointwise

/-- One trip's state. -/
def nextState (s : FVec Ideal S2x16x4x128x128 .f32) (cd : FVec Ideal S2x1x4x1x1 .f32) (k v : FVec Ideal S2x16x4x64x128 .f32) (kd : FVec Ideal S2x1x4x64x1 .f32) :
    FVec Ideal S2x16x4x128x128 .f32 :=
  addf (F := Ideal) (mulf s (broadcastInDim S2x16x4x128x128 ![0, 1, 2, 3, 4] bcast_S2x1x4x1x1_S2x16x4x128x128_0_1_2_3_4 cd)) (Host.dotGeneral dot_S2x16x4x64x128_S2x16x4x64x128_S2x16x4x128x128_3_3_4_4_012_012 none (mulf k (broadcastInDim S2x16x4x64x128 ![0, 1, 2, 3, 4] bcast_S2x1x4x64x1_S2x16x4x64x128_0_1_2_3_4 kd)) v)

/-- One trip's state at an index. -/
theorem nextState_at (s cd k v kd) (d : Fin 2) (b : Fin 16) (h : Fin 4) (x y : Fin 128) : nextState s cd k v kd (ix5 d b h x y)
    = s (ix5 d b h x y) * cd (ix5 d 0 h 0 0) + ∑ j : Fin 64, k (ix5 d b h j x) * kd (ix5 d 0 h j 0) * v (ix5 d b h j y) := by
  pointwise [nextState]
  done

/-- One trip's outputs. -/
def nextOut (q k v : FVec Ideal S2x16x4x64x128 .f32) (dm : FVec Ideal S2x4x64x64 .f32) (qd : FVec Ideal S2x1x4x64x1 .f32) (s : FVec Ideal S2x16x4x128x128 .f32) :
    FVec Ideal S1x2x16x4x64x128 .f32 :=
  broadcastInDim S1x2x16x4x64x128 ![1, 2, 3, 4, 5] bcast_S2x16x4x64x128_S1x2x16x4x64x128_1_2_3_4_5 (addf (F := Ideal) (Host.dotGeneral dot_S2x16x4x64x64_S2x16x4x64x128_S2x16x4x64x128_4_3_3_4_012_012 none (mulf (Host.dotGeneral dot_S2x16x4x64x128_S2x16x4x64x128_S2x16x4x64x64_4_4_3_3_012_012 none q k) (broadcastInDim S2x16x4x64x64 ![0, 1, 2, 3, 4] bcast_S2x1x4x64x64_S2x16x4x64x64_0_1_2_3_4 (broadcastInDim S2x1x4x64x64 ![0, 2, 3, 4] bcast_S2x4x64x64_S2x1x4x64x64_0_2_3_4 dm))) v) (Host.dotGeneral dot_S2x16x4x64x128_S2x16x4x128x128_S2x16x4x64x128_4_3_3_4_012_012 none (mulf q (broadcastInDim S2x16x4x64x128 ![0, 1, 2, 3, 4] bcast_S2x1x4x64x1_S2x16x4x64x128_0_1_2_3_4 qd)) s))

/-- One trip's outputs at an index. -/
theorem nextOut_at (q k v dm qd s) (d : Fin 2) (b : Fin 16) (h : Fin 4) (i : Fin 64) (y : Fin 128) : nextOut q k v dm qd s (ix6 0 d b h i y)
    = (∑ j : Fin 64, ((∑ x : Fin 128, q (ix5 d b h i x) * k (ix5 d b h j x)) * dm (ix4 d h i j)) * v (ix5 d b h j y))
      + ∑ x : Fin 128, (q (ix5 d b h i x) * qd (ix5 d 0 h i 0)) * s (ix5 d b h x y) := by
  pointwise [nextOut]
  done

/-- The chunk written at the counter. -/
theorem write_at (X : Vec Ideal S4x2x16x4x64x128 .f32) (u : Vec Ideal S1x2x16x4x64x128 .f32) (n n' : Fin 4) (d : Fin 2) (b : Fin 16) (h : Fin 4) (p : Fin 64) (x : Fin 128) :
    Host.dynamicUpdateSlice X u (starts (fun _ => BitVec.ofNat 32 n.val)) updateFits_S4x2x16x4x64x128_S1x2x16x4x64x128 (ix6 n' d b h p x)
      = if n' = n then u (ix6 0 d b h p x) else X (ix6 n' d b h p x) := by
  rw [WordCmp.dynamicUpdateSlice_eq_update X u _ _ ![n.val, 0, 0, 0, 0, 0] (chunk_fits n) (starts_eq n)]
  pointwise
  by_cases e : n' = n
  · subst e
    rw [dif_pos ⟨le_refl _, Nat.lt_succ_self _⟩, if_pos rfl]
    exact congrArg (fun t => u (ix6 t d b h p x)) (Fin.ext (Nat.sub_self _))
  · rw [if_neg e, dif_neg]
    rintro ⟨h1, h2⟩
    exact e (Fin.ext (by omega))

variable (m : (ℓ : Loc nD τ sig) → Buf (Elt Ideal) ℓ) (c : Dev nD)

/-- The queries. -/
abbrev rq : (⟨S12288x512, .f32⟩ : BufTy).Contents (Elt Ideal) := m ((c.tc : Thread nD τ).loc main_arg0)
/-- The keys. -/
abbrev rk : (⟨S12288x512, .f32⟩ : BufTy).Contents (Elt Ideal) := m ((c.tc : Thread nD τ).loc main_arg1)
/-- The projection that holds the values. -/
abbrev rv : (⟨S12288x9856, .f32⟩ : BufTy).Contents (Elt Ideal) := m ((c.tc : Thread nD τ).loc main_arg2)
/-- The logarithms of the decay rates. -/
abbrev rw' : (⟨S2x4, .f32⟩ : BufTy).Contents (Elt Ideal) := m ((c.tc : Thread nD τ).loc main_arg3)

/-- The state before a chunk, of the reference's arguments. -/
abbrev rst (d : Fin 2) (b : Fin 16) (h : Fin 4) (n : ℕ) (x y : Fin 128) : EReal :=
  state (fun r o => rk m c (ix2 r o)) (fun r o => rv m c (ix2 r o)) (fun d h => rw' m c (ix2 d h)) d b h n x y

/-- A chunk's output, of the reference's arguments. -/
abbrev rot (d : Fin 2) (b : Fin 16) (h : Fin 4) (n : ℕ) (i : Fin 64) (y : Fin 128) : EReal :=
  out (fun r o => rq m c (ix2 r o)) (fun r o => rk m c (ix2 r o)) (fun r o => rv m c (ix2 r o)) (fun d h => rw' m c (ix2 d h)) d b h n i y

/-- What the carried buffers hold before trip `n`. -/
structure At (n : ℕ) (V0 : Valuation τ sig (Elt Ideal)) : Prop where
  q : V0 (Proc.devRef .tc main_v75_0) = A_main_v71 (rq m c) (rk m c) (rv m c) (rw' m c)
  k : V0 (Proc.devRef .tc main_v75_1) = A_main_v72 (rq m c) (rk m c) (rv m c) (rw' m c)
  v : V0 (Proc.devRef .tc main_v75_2) = A_main_v73 (rq m c) (rk m c) (rv m c) (rw' m c)
  dm : V0 (Proc.devRef .tc main_v75_3) = A_main_v47 (rq m c) (rk m c) (rv m c) (rw' m c)
  qd : V0 (Proc.devRef .tc main_v75_4) = A_main_v56 (rq m c) (rk m c) (rv m c) (rw' m c)
  cd : V0 (Proc.devRef .tc main_v75_5) = A_main_v69 (rq m c) (rk m c) (rv m c) (rw' m c)
  kd : V0 (Proc.devRef .tc main_v75_6) = A_main_v65 (rq m c) (rk m c) (rv m c) (rw' m c)
  cnt : V0 (Proc.devRef .tc main_v75_7) = fun _ => BitVec.ofNat 32 n
  st : ∀ (d : Fin 2) (b : Fin 16) (h : Fin 4) (x y : Fin 128), (V0 (Proc.devRef .tc main_v75_8) : Vec Ideal S2x16x4x128x128 .f32) (ix5 d b h x y) = rst m c d b h n x y
  ot : ∀ (n' : Fin 4), n'.val < n → ∀ (d : Fin 2) (b : Fin 16) (h : Fin 4) (i : Fin 64) (y : Fin 128),
    (V0 (Proc.devRef .tc main_v75_9) : Vec Ideal S4x2x16x4x64x128 .f32) (ix6 n' d b h i y) = rot m c d b h n'.val i y

set_option maxRecDepth 65536 in
set_option maxHeartbeats 600000 in
/-- Before the first trip. -/
theorem at_zero : At m c 0 (entryContents preI m c) := by
  constructor
  case st =>
    intro d b h x y
    refine Eq.trans (congrArg (fun z : Vec Ideal S2x16x4x128x128 .f32 => z (ix5 d b h x y)) (?_ : _ = K_main_v70)) (s_at d b h x y)
    simp only [entryContents, afterL_cons, afterL_nil]
    after_reads_simp
    rfl
  case ot => exact fun n' h => absurd h (Nat.not_lt_zero _)
  all_goals
    simp only [entryContents, afterL_cons, afterL_nil]
    after_reads_simp
    rfl

variable {m c}

/-- The queries of the counter's chunk. -/
theorem At.q_chunk {n : Fin 4} {V0 : Valuation τ sig (Elt Ideal)} (H : At m c n.val V0) (d : Fin 2) (b : Fin 16) (h : Fin 4) (p : Fin 64) (x : Fin 128) :
    (res_main_while0b_v89 V0 : Vec Ideal S2x16x4x64x128 .f32) (ix5 d b h p x) = rq m c (ix2 (tok d b n.val p) (col h x)) := by
  unfold res_main_while0b_v89
  rw [H.q, H.cnt]
  exact (read_at _ n d b h p x).trans (q_at _ _ _ _ n d b h p x)

/-- The keys of the counter's chunk. -/
theorem At.k_chunk {n : Fin 4} {V0 : Valuation τ sig (Elt Ideal)} (H : At m c n.val V0) (d : Fin 2) (b : Fin 16) (h : Fin 4) (p : Fin 64) (x : Fin 128) :
    (res_main_while0b_v90 V0 : Vec Ideal S2x16x4x64x128 .f32) (ix5 d b h p x) = rk m c (ix2 (tok d b n.val p) (col h x)) := by
  unfold res_main_while0b_v90
  rw [H.k, H.cnt]
  exact (read_at _ n d b h p x).trans (k_at _ _ _ _ n d b h p x)

/-- The values of the counter's chunk. -/
theorem At.v_chunk {n : Fin 4} {V0 : Valuation τ sig (Elt Ideal)} (H : At m c n.val V0) (d : Fin 2) (b : Fin 16) (h : Fin 4) (p : Fin 64) (x : Fin 128) :
    (res_main_while0b_v91 V0 : Vec Ideal S2x16x4x64x128 .f32) (ix5 d b h p x) = rv m c (ix2 (tok d b n.val p) (vcol h x)) := by
  unfold res_main_while0b_v91
  rw [H.v, H.cnt]
  exact (read_at _ n d b h p x).trans (v_at _ _ _ _ n d b h p x)

/-- The state a trip leaves. -/
theorem At.st_next {n : Fin 4} {V0 : Valuation τ sig (Elt Ideal)} (H : At m c n.val V0) (d : Fin 2) (b : Fin 16) (h : Fin 4) (x y : Fin 128) :
    (Value.step_main_v75_8 V0 : Vec Ideal S2x16x4x128x128 .f32) (ix5 d b h x y) = rst m c d b h (n.val + 1) x y := by
  have e : Value.step_main_v75_8 V0 = nextState (V0 (Proc.devRef .tc main_v75_8)) (V0 (Proc.devRef .tc main_v75_5)) (res_main_while0b_v90 V0)
      (res_main_while0b_v91 V0) (V0 (Proc.devRef .tc main_v75_6)) := rfl
  rw [e]
  refine Eq.trans (nextState_at (V0 (Proc.devRef .tc main_v75_8)) (V0 (Proc.devRef .tc main_v75_5)) (res_main_while0b_v90 V0) (res_main_while0b_v91 V0) (V0 (Proc.devRef .tc main_v75_6)) d b h x y) ?_
  rw [H.st, H.cd, H.kd, cd_at]
  refine congrArg (fun z : EReal => rst m c d b h n.val x y * pw (glog (rw' m c) d h) 64 + z) (Finset.sum_congr rfl fun j _ => ?_)
  rw [H.k_chunk, H.v_chunk, kd_at]

/-- The outputs a trip computes. -/
theorem At.ot_next {n : Fin 4} {V0 : Valuation τ sig (Elt Ideal)} (H : At m c n.val V0) (d : Fin 2) (b : Fin 16) (h : Fin 4) (i : Fin 64) (y : Fin 128) :
    nextOut (res_main_while0b_v89 V0) (res_main_while0b_v90 V0) (res_main_while0b_v91 V0) (V0 (Proc.devRef .tc main_v75_3)) (V0 (Proc.devRef .tc main_v75_4))
      (V0 (Proc.devRef .tc main_v75_8)) (ix6 0 d b h i y) = rot m c d b h n.val i y := by
  rw [nextOut_at, H.dm, H.qd]
  simp only [H.q_chunk, H.k_chunk, H.v_chunk, H.st, dec_at, qd_at]
  rfl

/-- One trip carries the invariant on. -/
theorem At.step {n : Fin 4} {V0 : Valuation τ sig (Elt Ideal)} (H : At m c n.val V0) : At m c (n.val + 1) (STEP V0) where
  q := (STEP_main_v75_0 V0).trans H.q
  k := (STEP_main_v75_1 V0).trans H.k
  v := (STEP_main_v75_2 V0).trans H.v
  dm := (STEP_main_v75_3 V0).trans H.dm
  qd := (STEP_main_v75_4 V0).trans H.qd
  cd := (STEP_main_v75_5 V0).trans H.cd
  kd := (STEP_main_v75_6 V0).trans H.kd
  cnt := by
    refine (STEP_main_v75_7 V0).trans ?_
    unfold Value.step_main_v75_7
    rw [H.cnt]
    funext z
    show BitVec.ofNat 32 n.val + 1#32 = BitVec.ofNat 32 (n.val + 1)
    exact (BitVec.ofNat_add n.val 1).symm
  st := fun d b h x y => by
    rw [STEP_main_v75_8]
    exact H.st_next d b h x y
  ot := fun n' hn d b h i y => by
    rw [STEP_main_v75_9]
    unfold Value.step_main_v75_9
    rw [H.cnt]
    refine (write_at _ _ n n' d b h i y).trans ?_
    by_cases e : n' = n
    · subst e
      rw [if_pos rfl]
      exact H.ot_next d b h i y
    · rw [if_neg e]
      exact H.ot n' (by omega) d b h i y

variable (m c)

/-- The loop's end. -/
theorem at_four : At m c 4 (STEP^[4] (entryContents preI m c)) := by
  rw [Function.iterate_succ_apply', Function.iterate_succ_apply', Function.iterate_succ_apply', Function.iterate_succ_apply', Function.iterate_zero_apply]
  exact At.step (n := 3) (At.step (n := 2) (At.step (n := 1) (At.step (n := 0) (at_zero m c))))

/-- The outputs with the heads after the places. -/
def merged (Y : Vec Ideal S4x2x16x4x64x128 .f32) : Vec Ideal S2x16x4x64x4x128 .f32 :=
  transpose S2x16x4x64x4x128 [0, 2, 1, 3, 4, 5] (transpose S2x4x16x64x4x128 [1, 0, 2, 4, 3, 5] Y transposes_S4x2x16x4x64x128_S2x4x16x64x4x128_1_0_2_4_3_5) transposes_S2x4x16x64x4x128_S2x16x4x64x4x128_0_2_1_3_4_5

/-- The chunks brought after the sequences, at an index. -/
theorem chunk_third (X : Vec Ideal S2x4x16x64x4x128 .f32) (d : Fin 2) (b : Fin 16) (n : Fin 4) (p : Fin 64) (h : Fin 4) (x : Fin 128) :
    (transpose S2x16x4x64x4x128 [0, 2, 1, 3, 4, 5] X transposes_S2x4x16x64x4x128_S2x16x4x64x4x128_0_2_1_3_4_5) (ix6 d b n p h x) = X (ix6 d n b p h x) := by
  pointwise

/-- The directions brought first and the heads behind the places, at an index. -/
theorem dir_first (X : Vec Ideal S4x2x16x4x64x128 .f32) (d : Fin 2) (n : Fin 4) (b : Fin 16) (p : Fin 64) (h : Fin 4) (x : Fin 128) :
    (transpose S2x4x16x64x4x128 [1, 0, 2, 4, 3, 5] X transposes_S4x2x16x4x64x128_S2x4x16x64x4x128_1_0_2_4_3_5) (ix6 d n b p h x) = X (ix6 n d b h p x) := by
  pointwise

/-- The merged outputs at an index. -/
theorem merged_at (Y : Vec Ideal S4x2x16x4x64x128 .f32) (d : Fin 2) (b : Fin 16) (n : Fin 4) (p : Fin 64) (h : Fin 4) (x : Fin 128) :
    merged Y (ix6 d b n p h x) = Y (ix6 n d b h p x) := by
  rw [merged, chunk_third, dir_first]

/-- The forward direction's outputs as rows of an array of all tokens. -/
def fwdRows (Z : Vec Ideal S2x16x4x64x4x128 .f32) : Vec Ideal S12288x512 .f32 :=
  pad S12288x512 ![0, 0] ![8192, 0] ![0, 0] (shapeCast _ (shapeCast _ (extractStridedSlice S1x16x256x4x128 ![0, 0, 0, 0, 0] (shapeCast _ Z shapeCasts_S2x16x4x64x4x128_S2x16x256x4x128) slices_S2x16x256x4x128_S1x16x256x4x128_0_0_0_0_0) shapeCasts_S1x16x256x4x128_S16x256x4x128) shapeCasts_S16x256x4x128_S4096x512) (sitofp (F := Ideal) .f32 (constantI S_ 32 0#32)) pads_S4096x512_S12288x512_081920_000 h_S_

/-- The backward direction's outputs, put back in order, as rows of an array of all tokens. -/
def bwdRows (Z : Vec Ideal S2x16x4x64x4x128 .f32) : Vec Ideal S12288x512 .f32 :=
  pad S12288x512 ![0, 0] ![8192, 0] ![0, 0] (shapeCast _ (Host.reverse [1] (shapeCast _ (extractStridedSlice S1x16x256x4x128 ![1, 0, 0, 0, 0] (shapeCast _ Z shapeCasts_S2x16x4x64x4x128_S2x16x256x4x128) slices_S2x16x256x4x128_S1x16x256x4x128_1_0_0_0_0) shapeCasts_S1x16x256x4x128_S16x256x4x128)) shapeCasts_S16x256x4x128_S4096x512) (sitofp (F := Ideal) .f32 (constantI S_ 32 0#32)) pads_S4096x512_S12288x512_081920_000 h_S_

/-- An array of six axes read at equal coordinates. -/
theorem ix6_congr (Z : Vec Ideal S2x16x4x64x4x128 .f32) {d d' : Fin 2} {b b' : Fin 16} {n n' : Fin 4} {p p' : Fin 64} {h h' : Fin 4} {x x' : Fin 128}
    (hd : d = d') (hb : b = b') (hn : n = n') (hp : p = p') (hh : h = h') (hx : x = x') : Z (ix6 d b n p h x) = Z (ix6 d' b' n' p' h' x') := by
  rw [hd, hb, hn, hp, hh, hx]

/-- The chunk of a row. -/
def ch (r : Fin 12288) : Fin 4 := ⟨r.val % 256 / 64, by omega⟩

/-- The forward rows at an index of the sequences. -/
theorem fwdRows_at (Z : Vec Ideal S2x16x4x64x4x128 .f32) (r : Fin 12288) (o : Fin 512) (hr : r.val < 4096) :
    fwdRows Z (ix2 r o) = Z (ix6 0 (seqOf r) (ch r) (pl r) (hd o) (ft o)) := by
  pointwise [fwdRows]
  rw [dif_pos hr]
  refine ix6_congr Z rfl (Fin.ext ?_) rfl (Fin.ext ?_) rfl rfl
  · show r.val / 256 = r.val / 256 % 16
    omega
  · show r.val % 256 % 64 = r.val % 64
    omega

/-- The chunk of a place counted from a sequence's end. -/
theorem rev_ch (r : Fin 12288) (t : Fin 256) (h : r.val % 256 < 256) (ht : t = (⟨r.val % 256, h⟩ : Fin 256).rev) (hc : t.val / 64 < 4) :
    (⟨t.val / 64, hc⟩ : Fin 4) = (ch r).rev := by
  subst ht
  refine Fin.ext ?_
  show (256 - (r.val % 256 + 1)) / 64 = 4 - (r.val % 256 / 64 + 1)
  omega

/-- The place in its chunk of a place counted from a sequence's end. -/
theorem rev_pl (r : Fin 12288) (t : Fin 256) (h : r.val % 256 < 256) (ht : t = (⟨r.val % 256, h⟩ : Fin 256).rev) (hc : t.val % 64 < 64) :
    (⟨t.val % 64, hc⟩ : Fin 64) = (pl r).rev := by
  subst ht
  refine Fin.ext ?_
  show (256 - (r.val % 256 + 1)) % 64 = 64 - (r.val % 64 + 1)
  omega

/-- The backward rows at an index of the sequences. -/
theorem bwdRows_at (Z : Vec Ideal S2x16x4x64x4x128 .f32) (r : Fin 12288) (o : Fin 512) (hr : r.val < 4096) :
    bwdRows Z (ix2 r o) = Z (ix6 1 (seqOf r) (ch r).rev (pl r).rev (hd o) (ft o)) := by
  pointwise [bwdRows]
  rw [dif_pos hr]
  refine ix6_congr Z rfl ((if_neg (by decide)).trans (Fin.ext ?_)) (rev_ch r _ (Nat.mod_lt _ (by decide)) (if_pos (by decide)) _)
    (rev_pl r _ (Nat.mod_lt _ (by decide)) (if_pos (by decide)) _) (if_neg (by decide)) (if_neg (by decide))
  show r.val / 256 = r.val / 256 % 16
  omega

/-- The reference's forward result at a row of the sequences. -/
theorem fwd_at (r : Fin 12288) (o : Fin 512) (hr : r.val < 4096) : (out_main_v86 (STEP^[4] (entryContents preI m c)) : Vec Ideal S12288x512 .f32) (ix2 r o)
    = rot m c 0 (seqOf r) (hd o) (r.val % 256 / 64) (pl r) (ft o) := by
  have e : out_main_v86 (STEP^[4] (entryContents preI m c)) = fwdRows (merged (STEP^[4] (entryContents preI m c) (Proc.devRef .tc main_v75_9))) := rfl
  rw [e, fwdRows_at _ r o hr, merged_at]
  exact (at_four m c).ot (ch r) (by omega) _ _ _ _ _

/-- The reference's backward result at a row of the sequences. -/
theorem bwd_at (r : Fin 12288) (o : Fin 512) (hr : r.val < 4096) : (out_main_v88 (STEP^[4] (entryContents preI m c)) : Vec Ideal S12288x512 .f32) (ix2 r o)
    = rot m c 1 (seqOf r) (hd o) (3 - r.val % 256 / 64) (pl r).rev (ft o) := by
  have e : out_main_v88 (STEP^[4] (entryContents preI m c)) = bwdRows (merged (STEP^[4] (entryContents preI m c) (Proc.devRef .tc main_v75_9))) := rfl
  have e3 : (ch r).rev.val = 3 - r.val % 256 / 64 := by
    rw [Fin.val_rev]
    show 4 - (r.val % 256 / 64 + 1) = 3 - r.val % 256 / 64
    omega
  rw [e, bwdRows_at _ r o hr, merged_at, ← e3]
  exact (at_four m c).ot (ch r).rev (by omega) _ _ _ _ _

/-- The reference's states after the last chunk. -/
theorem state_at (b : Fin 16) (d : Fin 2) (h : Fin 4) (x y : Fin 128) :
    (out_main_v79 (STEP^[4] (entryContents preI m c)) : Vec Ideal S16x2x4x128x128 .f32) (ix5 b d h x y) = rst m c d b h 4 x y := by
  rw [← (at_four m c).st d b h x y]
  pointwise [out_main_v79]

end Cert.ReferenceIdeal.Ret
end
-- ==== Proof.RetClaim.lean ====
/- Retention scan: the claim that kernel and reference leave the same outputs in the sequences' rows and the same states. -/
module

public import proofs.«01_k».proof.Defs
public import proofs.«01_k».proof.Proof.RetArrays
public import proofs.«01_k».proof.Proof.RetLoop
public import proofs.«01_k».proof.Proof.Gen.On_prompt_rows

@[expose] public section

set_option maxRecDepth 16384

noncomputable section

open Idealize.ShloMosaic Idealize.ShloMosaic.TcCoe Idealize.SL.Sem

namespace Cert.On_prompt_rows

open Facts

variable [Facts]

/-- Where the mask of the forward outputs is set the row is one of the sequences'. -/
theorem fwd_row (q k : FVec Ideal S12288x512 .f32) (v : FVec Ideal S12288x9856 .f32) (w : FVec Ideal S2x4 .f32) (r : Fin 12288) (o : Fin 512)
    (h : (fn q k v w).1 (ix2 r o) = 1#1) : r.val < 4096 := by
  have e : (IntOp.cmpi .slt (BitVec.ofNat 32 r.val) 4096#32 : BitVec 1) = 1#1 := h
  have hi : (BitVec.ofNat 32 r.val).toInt = (r.val : Int) := WordCmp.toInt_ofNat_of_lt (by omega)
  rw [WordCmp.cmpi_slt_eq, hi] at e
  by_contra hc
  have hd : ¬ (r.val : Int) < (4096#32 : BitVec 32).toInt := fun hlt => hc (by
    have : (4096#32 : BitVec 32).toInt = 4096 := by decide
    omega)
  rw [decide_eq_false hd] at e
  exact absurd e (by decide)

/-- Where the mask of the backward outputs is set the row is one of the sequences'. -/
theorem bwd_row (q k : FVec Ideal S12288x512 .f32) (v : FVec Ideal S12288x9856 .f32) (w : FVec Ideal S2x4 .f32) (r : Fin 12288) (o : Fin 512)
    (h : (fn q k v w).2.1 (ix2 r o) = 1#1) : r.val < 4096 :=
  fwd_row q k v w r o h

end Cert.On_prompt_rows

namespace Cert.KernelIdeal.Ret

open Cert.Retention

/-- The retention scan's kernel and the reference leave the same outputs in the rows of the sequences, and the same states. -/
theorem algebraic : Cert.algebraic_KernelIdeal_ReferenceIdeal_on_prompt_rows (hKernelIdeal := Cert.KernelIdeal.Gen.facts)
    (hReferenceIdeal := Cert.ReferenceIdeal.Gen.facts) (hOn_prompt_rows := Cert.On_prompt_rows.Gen.facts) := by
  intro m g m' g' _ hag
  refine ⟨fun c => G8 m c, fun c => G9 m c, fun c => G10 m c,
    (θ_run _ _ _).mono (fun r h c => ⟨fun i hi => ?_, fun i hi => ?_, fun i _ => ?_, (h c).2.2.2⟩) (Cert.KernelIdeal.Value.run_blocks m g),
    (θ_run _ _ _).mono (fun r h c => ⟨fun i hi => ?_, fun i hi => ?_, fun i _ => ?_, (h c).2.2.2⟩) (Cert.ReferenceIdeal.Value.run m' g')⟩
  · rw [(h c).1]
    idx_vars i
    exact arr8 m c _ _ (Cert.On_prompt_rows.fwd_row _ _ _ _ _ _ hi)
  · rw [(h c).2.1]
    idx_vars i
    exact arr9 m c _ _ (Cert.On_prompt_rows.bwd_row _ _ _ _ _ _ hi)
  · rw [(h c).2.2.1, arr10]
  · rw [(h c).1]
    idx_vars i
    refine (Cert.ReferenceIdeal.Ret.fwd_at m' c _ _ (Cert.On_prompt_rows.fwd_row _ _ _ _ _ _ hi)).trans ?_
    unfold Cert.ReferenceIdeal.Ret.rot Cert.ReferenceIdeal.Ret.rq Cert.ReferenceIdeal.Ret.rk Cert.ReferenceIdeal.Ret.rv Cert.ReferenceIdeal.Ret.rw'
    rw [(hag c).1, (hag c).2.1, (hag c).2.2.1, (hag c).2.2.2]
    rfl
  · rw [(h c).2.1]
    idx_vars i
    refine (Cert.ReferenceIdeal.Ret.bwd_at m' c _ _ (Cert.On_prompt_rows.bwd_row _ _ _ _ _ _ hi)).trans ?_
    unfold Cert.ReferenceIdeal.Ret.rot Cert.ReferenceIdeal.Ret.rq Cert.ReferenceIdeal.Ret.rk Cert.ReferenceIdeal.Ret.rv Cert.ReferenceIdeal.Ret.rw'
    rw [(hag c).1, (hag c).2.1, (hag c).2.2.1, (hag c).2.2.2]
    rfl
  · rw [(h c).2.2.1]
    idx_vars i
    refine (Cert.ReferenceIdeal.Ret.state_at m' c _ _ _ _ _).trans ?_
    unfold Cert.ReferenceIdeal.Ret.rst Cert.ReferenceIdeal.Ret.rk Cert.ReferenceIdeal.Ret.rv Cert.ReferenceIdeal.Ret.rw'
    rw [(hag c).2.1, (hag c).2.2.1, (hag c).2.2.2]
    rfl

end Cert.KernelIdeal.Ret
end
-- ==== Proof.HgSpec.lean ====
/- Gated linear attention's state as sums over extended reals: what kernel and reference are both shown to compute. -/
module

public import proofs.«01_k».proof.Proof.RetSpec
public import Idealize.ShloMosaic.Lib.Pipeline.ValueKit

@[expose] public section

noncomputable section

namespace Cert.Hgrn

open Idealize.ShloMosaic
open Cert.Retention

/-- The column of a head's value within the projection, where the values start at 8704. -/
def vcol (h : Fin 4) (x : Fin 128) : Fin 9856 := ⟨8704 + (h.val * 128 + x.val), by omega⟩

variable (k l : Fin 2 → Fin 12288 → Fin 512 → EReal) (v : Fin 12288 → Fin 9856 → EReal)

/-- The logarithms of the forget gates of a chunk, added up to position `p`. -/
def cum (d : Fin 2) (b : Fin 16) (h : Fin 4) (n : ℕ) (p : Fin 64) (x : Fin 128) : EReal :=
  ∑ j : Fin 64, if j.val ≤ p.val then l d (tok d b n j) (col h x) else 0

/-- The state before chunk `n`, value `y` first and key `x` second: zero at the start, then decayed over the chunk with the
    chunk's keys and values added, each key decayed from its position to the chunk's end. -/
def state (d : Fin 2) (b : Fin 16) (h : Fin 4) : ℕ → Fin 128 → Fin 128 → EReal
  | 0 => fun _ _ => 0
  | n + 1 => fun y x => state d b h n y x * Ideal.exp (cum l d b h n 63 x)
      + ∑ j : Fin 64, v (tok d b n j) (vcol h y) * (k d (tok d b n j) (col h x) * Ideal.exp (cum l d b h n 63 x - cum l d b h n j x))

/-- A sum over a mask of an array's three parts, the second and third what is left after the first, is the sum of the entries
    the mask picks, where no entry is plus infinity. -/
theorem split_sum (P : Fin 64 → Prop) [DecidablePred P] (x : Fin 64 → EReal) (hx : ∀ j, x j < ⊤) :
    (∑ j, (if P j then (1 : EReal) else 0) * x j)
      + ((∑ j, (if P j then (1 : EReal) else 0) * (x j - x j)) + ∑ j, (if P j then (1 : EReal) else 0) * ((x j - x j) - (x j - x j)))
      = ∑ j, if P j then x j else 0 := by
  have pick : ∀ f : Fin 64 → EReal, (∑ j, (if P j then (1 : EReal) else 0) * f j) = ∑ j, if P j then f j else 0 := fun f =>
    Finset.sum_congr rfl fun j _ => by
      by_cases h : P j
      · rw [if_pos h, if_pos h, one_mul]
      · rw [if_neg h, if_neg h, zero_mul]
  rw [pick, pick, pick]
  by_cases hb : ∃ j, P j ∧ x j = ⊥
  · obtain ⟨j, hj, hxj⟩ := hb
    have e : (∑ j, if P j then x j else 0) = ⊥ := by
      rw [← Finset.add_sum_erase _ _ (Finset.mem_univ j), if_pos hj, hxj, EReal.bot_add]
    rw [e, EReal.bot_add]
  · have z : ∀ j, P j → x j - x j = 0 := fun j hj =>
      EReal.sub_self (ne_of_lt (hx j)) fun e => hb ⟨j, hj, e⟩
    have e1 : (∑ j, if P j then x j - x j else 0) = 0 := Finset.sum_eq_zero fun j _ => by
      by_cases h : P j
      · rw [if_pos h, z j h]
      · rw [if_neg h]
    have e2 : (∑ j, if P j then (x j - x j) - (x j - x j) else 0) = 0 := Finset.sum_eq_zero fun j _ => by
      by_cases h : P j
      · rw [if_pos h, z j h, sub_zero]
      · rw [if_neg h]
    rw [e1, e2, add_zero, add_zero]

/-- A fold of additions over a list is the start plus the list's sum. -/
theorem foldl_sum {ι : Type} (g : ι → EReal) : ∀ (L : List ι) (a : EReal), L.foldl (fun r n => r + g n) a = a + (L.map g).sum
  | [], a => (add_zero a).symm
  | n :: L, a => by rw [List.foldl_cons, foldl_sum g L, List.map_cons, List.sum_cons, add_assoc]

/-- The sum over a window of 64 ending at position `p`, nothing counted before the start, is the sum of the entries up to `p`. -/
theorem window_sum (f : Fin 64 → EReal) (p : Fin 64) :
    (∑ k : Fin 64, if h : 63 ≤ p.val + k.val then f ⟨p.val + k.val - 63, by omega⟩ else 0) = ∑ j : Fin 64, if j.val ≤ p.val then f j else 0 := by
  rw [← Equiv.sum_comp (Equiv.addRight (p + 1)) fun j : Fin 64 => if j.val ≤ p.val then f j else 0]
  refine Finset.sum_congr rfl fun k _ => ?_
  have e : ((Equiv.addRight (p + 1)) k : Fin 64).val = (k.val + (p.val + 1) % 64) % 64 := by
    show (k + (p + 1)).val = _
    rw [Fin.val_add, Fin.val_add]
    rfl
  by_cases h : 63 ≤ p.val + k.val
  · rw [dif_pos h, if_pos (by rw [e]; omega)]
    exact congrArg f (Fin.ext (by rw [e]; show p.val + k.val - 63 = _; omega))
  · rw [dif_neg h, if_neg (by rw [e]; omega)]

end Cert.Hgrn
end
-- ==== Proof.HgBody.lean ====
/- Gated linear attention scan: the kernel's new state for one chunk of one head, read at an index. -/
module

public import proofs.«01_k».proof.Proof.HgSpec
public import proofs.«01_k».proof.Proof.Gen.Kernel4Ideal.Value
public import Idealize.ShloMosaic.Lib.Pipeline.ValueKit
public import Idealize.ShloMosaic.Lib.Pipeline.ReadBack

@[expose] public section

set_option maxRecDepth 16384

noncomputable section

namespace Cert.Kernel4Ideal.Hg

open Cert.Kernel4Ideal Cert.Kernel4Ideal.Gen Idealize.ShloMosaic Idealize.ShloMosaic.TcCoe Idealize.SL.Sem
open Idealize.ShloMosaic.Pipeline (Dat)
open Cert.Retention (tok col sitofp_at)
open Cert.Hgrn

/-- The place of a row of a block in reading order: itself in the first direction, counted from the end in the second. -/
def ps (d : Fin 2) (i : Fin 64) : Fin 64 := match d with | 0 => i | 1 => i.rev
/-- One of two, by the direction. -/
def sel {α : Type} (d : Fin 2) (a b : α) : α := match d with | 0 => a | 1 => b
/-- The last row in reading order. -/
theorem ps_end : ∀ d : Fin 2, ps d (sel d 63 0) = 63 := by decide

/-- The logarithms of the gates added up along the chunk, as the body adds them: the mask times the three parts. -/
def cumOf (d : Fin 2) (l : Vec Ideal S1x64x128 .f32) : FVec Ideal S64x128 .f32 :=
  match d with | 0 => k0_pay13 (F := Ideal) k0_pay3 l | 1 => k0_pay17 (F := Ideal) k0_pay4 l

/-- The state after a chunk in each direction, over the cut-out keys, gates and values of a head. -/
def chain (d : Fin 2) (k l : Vec Ideal S1x64x128 .f32) (v : Vec Ideal S64x128 .f32) (s : Vec Ideal S1x1x128x128 .f32) : FVec Ideal S1x1x128x128 .f32 :=
  match d with
  | 0 => k0_pay702 (F := Ideal) (k0_pay21 (F := Ideal) s) (k0_pay47 (F := Ideal) (k0_pay13 (F := Ideal) k0_pay3 l))
      (k0_pay55 (F := Ideal) (k0_pay5 (F := Ideal) k) (k0_pay13 (F := Ideal) k0_pay3 l) (k0_pay29 (F := Ideal) v))
  | 1 => k0_pay706 (F := Ideal) (k0_pay25 (F := Ideal) s) (k0_pay51 (F := Ideal) (k0_pay17 (F := Ideal) k0_pay4 l))
      (k0_pay60 (F := Ideal) (k0_pay33 (F := Ideal) v) (k0_pay59 (F := Ideal) (k0_pay9 (F := Ideal) k) (k0_pay17 (F := Ideal) k0_pay4 l)))

/-- The comparison of two positions, as the whole number zero or one. -/
theorem sub_sge : ∀ i j : Fin 64, ((IntOp.cmpi .sge (IntOp.subi (BitVec.ofNat 32 i.val) (BitVec.ofNat 32 j.val)) 0#32).setWidth 32).toInt = if j.val ≤ i.val then 1 else 0 := by
  decide +kernel

/-- The mask's entry. -/
theorem mask_at (i j : Fin 64) : (FloatOps.sitofp FTy.f32 ((IntOp.cmpi .sge (IntOp.subi (BitVec.ofNat 32 i.val) (BitVec.ofNat 32 j.val)) 0#32).setWidth 32) : Ideal .f32)
    = if j.val ≤ i.val then (1 : EReal) else 0 := by
  rw [sitofp_at, sub_sge]
  by_cases h : j.val ≤ i.val
  · rw [if_pos h, if_pos h]; simp
  · rw [if_neg h, if_neg h]; simp

/-- The gates added up in the forward direction, at an index. -/
theorem cum0_at (l : Vec Ideal S1x64x128 .f32) (i : Fin 64) (x : Fin 128) (hx : ∀ j : Fin 64, l (ix3 0 j x) < (⊤ : EReal)) :
    (k0_pay13 (F := Ideal) k0_pay3 l) (ix2 i x) = ∑ j : Fin 64, if j.val ≤ i.val then (l (ix3 0 j x) : EReal) else 0 := by
  refine Eq.trans ?_ (split_sum (fun j : Fin 64 => j.val ≤ i.val) (fun j => l (ix3 0 j x)) hx)
  pointwise [k0_pay13, k0_pay3]
  simp only [← mask_at]

/-- The gates added up in the backward direction, at an index. -/
theorem cum1_at (l : Vec Ideal S1x64x128 .f32) (i : Fin 64) (x : Fin 128) (hx : ∀ j : Fin 64, l (ix3 0 j x) < (⊤ : EReal)) :
    (k0_pay17 (F := Ideal) k0_pay4 l) (ix2 i x) = ∑ j : Fin 64, if i.val ≤ j.val then (l (ix3 0 j x) : EReal) else 0 := by
  refine Eq.trans ?_ (split_sum (fun j : Fin 64 => i.val ≤ j.val) (fun j => l (ix3 0 j x)) hx)
  pointwise [k0_pay17, k0_pay4]
  simp only [← mask_at]

/-- The gates added up, at an index: over the rows met so far. -/
theorem cumOf_at : ∀ (d : Fin 2) (l : Vec Ideal S1x64x128 .f32) (i : Fin 64) (x : Fin 128) (_ : ∀ j : Fin 64, l (ix3 0 j x) < (⊤ : EReal)),
    cumOf d l (ix2 i x) = ∑ j : Fin 64, if (ps d j).val ≤ (ps d i).val then (l (ix3 0 j x) : EReal) else 0
  | 0, l, i, x, hx => cum0_at l i x hx
  | 1, l, i, x, hx => (cum1_at l i x hx).trans (Finset.sum_congr rfl fun j _ => by
      have e : (ps 1 j).val ≤ (ps 1 i).val ↔ i.val ≤ j.val := by
        show j.rev.val ≤ i.rev.val ↔ _
        rw [Fin.val_rev, Fin.val_rev]; omega
      exact if_congr e.symm rfl rfl)

/-- The state block at an index, over the gates added up. -/
theorem chain_at (d : Fin 2) (k l : Vec Ideal S1x64x128 .f32) (v : Vec Ideal S64x128 .f32) (s : Vec Ideal S1x1x128x128 .f32) (y x : Fin 128) :
    chain d k l v s (ix4 0 0 y x) = s (ix4 0 0 y x) * Ideal.exp (cumOf d l (ix2 (sel d 63 0) x))
      + ∑ j : Fin 64, v (ix2 j y) * (k (ix3 0 j x) * Ideal.exp (cumOf d l (ix2 (sel d 63 0) x) - cumOf d l (ix2 j x))) := by
  match d with
  | 0 =>
    unfold chain cumOf
    dsimp only
    generalize k0_pay13 (F := Ideal) k0_pay3 l = g
    pointwise [k0_pay702, k0_pay21, k0_pay47, k0_pay55, k0_pay5, k0_pay29, sel]
    done
  | 1 =>
    unfold chain cumOf
    dsimp only
    generalize k0_pay17 (F := Ideal) k0_pay4 l = g
    pointwise [k0_pay706, k0_pay25, k0_pay51, k0_pay60, k0_pay59, k0_pay9, k0_pay33, sel]
    done

end Cert.Kernel4Ideal.Hg
end
-- ==== Proof.HgPoint.lean ====
/- Gated linear attention scan: what one grid point leaves in the carried state, as a function of its input blocks. The body
   writes one 128 by 128 piece of state for each direction and head, and every piece is the same chain of operations at
   another place. -/
module

public import proofs.«01_k».proof.Proof.HgBody

@[expose] public section

set_option maxRecDepth 16384

noncomputable section

namespace Cert.Kernel4Ideal.Hg

open Cert.Kernel4Ideal Cert.Kernel4Ideal.Gen Idealize.ShloMosaic Idealize.ShloMosaic.TcCoe Idealize.SL.Sem
open Idealize.ShloMosaic.Pipeline (Dat)
open Cert.Retention (tok col)
open Cert.Hgrn

/-- The column of a head's feature in a 512 wide block. -/
def hc (h : Fin 4) (x : Fin 128) : Fin 512 := ⟨128 * h.val + x.val, by omega⟩

/-- The columns of a head lie in a block of values. -/
theorem inbV : ∀ (h : Fin 4) (a : Fin 2), (![0, 128 * h.val] : Fin 2 → ℕ) a + (![64, 128] : Fin 2 → ℕ) a ≤ S64x512.size a := by decide
/-- The columns of a head lie in a block of keys or gates. -/
theorem inbK : ∀ (h : Fin 4) (a : Fin 3), (![0, 0, 128 * h.val] : Fin 3 → ℕ) a + (![1, 64, 128] : Fin 3 → ℕ) a ≤ S1x64x512.size a := by decide
/-- The state of a direction's head lies in the block. -/
theorem inbS : ∀ (d : Fin 2) (h : Fin 4) (a : Fin 4), (![d.val, h.val, 0, 0] : Fin 4 → ℕ) a + (![1, 1, 128, 128] : Fin 4 → ℕ) a ≤ S2x4x128x128.size a := by decide

/-- A head's 128 columns of a block of values. -/
def ldV (V : Vec Ideal S64x512 .f32) (h : Fin 4) : Vec Ideal S64x128 .f32 :=
  View.ld (Val := Elt Ideal) (e' := .f32) V (Rect.unit ![0, 128 * h.val] ![64, 128] (inbV h))
/-- A head's 128 columns of a block of keys or gates. -/
def ldK (K : Vec Ideal S1x64x512 .f32) (h : Fin 4) : Vec Ideal S1x64x128 .f32 :=
  View.ld (Val := Elt Ideal) (e' := .f32) K (Rect.unit ![0, 0, 128 * h.val] ![1, 64, 128] (inbK h))
/-- The state of a direction and a head. -/
def ldS (S : Vec Ideal S2x4x128x128 .f32) (d : Fin 2) (h : Fin 4) : Vec Ideal S1x1x128x128 .f32 :=
  View.ld (Val := Elt Ideal) (e' := .f32) S (Rect.unit ![d.val, h.val, 0, 0] ![1, 1, 128, 128] (inbS d h))

/-- The loaded values. -/
theorem ldV_at (V : Vec Ideal S64x512 .f32) (h : Fin 4) (i : Fin 64) (x : Fin 128) : ldV V h (ix2 i x) = V (ix2 i (hc h x)) := by
  unfold ldV
  refine View.ld_unit_apply_of _ _ _ _ _ (ix2 i (hc h x)) ?_
  intro a
  match a with
  | ⟨0, _⟩ => show i.val = 0 + i.val; omega
  | ⟨1, _⟩ => show 128 * h.val + x.val = 128 * h.val + x.val; omega
/-- The loaded keys or gates. -/
theorem ldK_at (K : Vec Ideal S1x64x512 .f32) (h : Fin 4) (i : Fin 64) (x : Fin 128) : ldK K h (ix3 0 i x) = K (ix3 0 i (hc h x)) := by
  unfold ldK
  refine View.ld_unit_apply_of _ _ _ _ _ (ix3 0 i (hc h x)) ?_
  intro a
  match a with
  | ⟨0, _⟩ => show 0 = 0 + 0; omega
  | ⟨1, _⟩ => show i.val = 0 + i.val; omega
  | ⟨2, _⟩ => show 128 * h.val + x.val = 128 * h.val + x.val; omega
/-- The loaded state. -/
theorem ldS_at (S : Vec Ideal S2x4x128x128 .f32) (d : Fin 2) (h : Fin 4) (y x : Fin 128) : ldS S d h (ix4 0 0 y x) = S (ix4 d h y x) := by
  unfold ldS
  refine View.ld_unit_apply_of _ _ _ _ _ (ix4 d h y x) ?_
  intro a
  match a with
  | ⟨0, _⟩ => show d.val = d.val + 0; omega
  | ⟨1, _⟩ => show h.val = h.val + 0; omega
  | ⟨2, _⟩ => show y.val = 0 + y.val; omega
  | ⟨3, _⟩ => show x.val = 0 + x.val; omega

/-- A point's new state at a direction, a head, a value's and a key's feature. -/
def kSt (K0 L0 : Vec Ideal S1x64x512 .f32) (V0 : Vec Ideal S64x512 .f32) (K1 L1 : Vec Ideal S1x64x512 .f32) (V1 : Vec Ideal S64x512 .f32)
    (S : Vec Ideal S2x4x128x128 .f32) (d : Fin 2) (h : Fin 4) (y x : Fin 128) : EReal :=
  S (ix4 d h y x) * Ideal.exp (cumOf d (ldK (sel d L0 L1) h) (ix2 (sel d 63 0) x))
    + ∑ j : Fin 64, sel d V0 V1 (ix2 j (hc h y)) * (sel d K0 K1 (ix3 0 j (hc h x))
      * Ideal.exp (cumOf d (ldK (sel d L0 L1) h) (ix2 (sel d 63 0) x) - cumOf d (ldK (sel d L0 L1) h) (ix2 j x)))

/-- The state as a whole. -/
def stG (K0 L0 : Vec Ideal S1x64x512 .f32) (V0 : Vec Ideal S64x512 .f32) (K1 L1 : Vec Ideal S1x64x512 .f32) (V1 : Vec Ideal S64x512 .f32)
    (S : Vec Ideal S2x4x128x128 .f32) : Vec Ideal S2x4x128x128 .f32 :=
  fun y => kSt K0 L0 V0 K1 L1 V1 S (y 0) (y 1) (y 2) (y 3)

/-- One piece of the state: the chain of operations of a direction and a head is its part of the new state. -/
theorem piece_st (d : Fin 2) (h : Fin 4) (K0 L0 : Vec Ideal S1x64x512 .f32) (V0 : Vec Ideal S64x512 .f32) (K1 L1 : Vec Ideal S1x64x512 .f32)
    (V1 : Vec Ideal S64x512 .f32) (S : Vec Ideal S2x4x128x128 .f32) (z : S1x1x128x128.Idx) :
    chain d (ldK (sel d K0 K1) h) (ldK (sel d L0 L1) h) (ldV (sel d V0 V1) h) (ldS S d h) z
      = stG K0 L0 V0 K1 L1 V1 S ((Rect.unit (s := S2x4x128x128) ![d.val, h.val, 0, 0] ![1, 1, 128, 128] (inbS d h)).emb z) := by
  idx_vars z
  obtain rfl : z0 = 0 := Fin.ext (by omega)
  obtain rfl : z1 = 0 := Fin.ext (by omega)
  generalize z2 = y, z3 = x
  rw [chain_at]
  simp only [ldK_at, ldV_at, ldS_at]
  have e : ((Rect.unit (s := S2x4x128x128) ![d.val, h.val, 0, 0] ![1, 1, 128, 128] (inbS d h)).emb (ix4 0 0 y x)) = ix4 d h y x := by
    funext a
    match a with
    | ⟨0, _⟩ => exact Fin.ext (by show d.val + 1 * 0 = d.val; omega)
    | ⟨1, _⟩ => exact Fin.ext (by show h.val + 1 * 0 = h.val; omega)
    | ⟨2, _⟩ => exact Fin.ext (by show 0 + 1 * y.val = y.val; omega)
    | ⟨3, _⟩ => exact Fin.ext (by show 0 + 1 * x.val = x.val; omega)
  rw [e]
  rfl

end Cert.Kernel4Ideal.Hg
end
-- ==== Proof.HgCases.lean ====
/- Gated linear attention scan: the state after a grid point, over the state before it. -/
module

public import proofs.«01_k».proof.Proof.HgPoint

@[expose] public section

set_option maxRecDepth 16384

noncomputable section

namespace Cert.Kernel4Ideal.Hg

open Cert.Kernel4Ideal Cert.Kernel4Ideal.Gen Idealize.ShloMosaic Idealize.ShloMosaic.TcCoe Idealize.SL.Sem
open Idealize.ShloMosaic.Pipeline (Dat)
open Cert.Retention (tok col)
open Cert.Hgrn

variable (m : (ℓ : Loc nD τ sig) → Buf (Elt Ideal) ℓ)

/-- The state after the grid point `n`. -/
abbrev scr (c : Dev nD) (n : ℕ) (h : n < cfg0.N) : Vec Ideal S2x4x128x128 .f32 := (outsAt0 m c n h).2.2.2
/-- The state before a point that is not the first of its sequence: what the point before left. -/
abbrev prev (c : Dev nD) (t : Fin cfg0.N) : Vec Ideal S2x4x128x128 .f32 := scr m c (t.val - 1) (Nat.lt_of_le_of_lt (Nat.sub_le _ _) t.isLt)
/-- The new state at a point, over the state before it. -/
abbrev stAt (c : Dev nD) (t : Fin cfg0.N) (S : Vec Ideal S2x4x128x128 .f32) : Vec Ideal S2x4x128x128 .f32 :=
  stG (iblk m c 1 t) (iblk m c 2 t) (X0_3 m c t) (iblk m c 5 t) (iblk m c 6 t) (X0_7 m c t) S

/-- Eight pieces of the new state are the new state. -/
theorem eight (c : Dev nD) (t : Fin cfg0.N) (S : Vec Ideal S2x4x128x128 .f32) (a b c' d e f g h : View.Piece (Elt Ideal) S2x4x128x128 .f32)
    (L : List (View.Piece (Elt Ideal) S2x4x128x128 .f32)) (hp : View.PiecesOf (stAt m c t S) [a, b, c', d, e, f, g, h])
    (ht : ∀ y : S2x4x128x128.Idx, ∃ p ∈ [a, b, c', d, e, f, g, h], y ∈ p.1.set) : View.canon (a :: b :: c' :: d :: e :: f :: g :: h :: L) = stAt m c t S :=
  funext fun y => View.canon_append_of_piecesOf _ L [a, b, c', d, e, f, g, h] hp y (ht y)

/-- The state as the body loads it, all of it: what the pieces written so far hold. -/
theorem readAll (v : View sig .tc .vmem S2x4x128x128 .f32) (L : List (View.Piece (Elt Ideal) S2x4x128x128 .f32)) (G : Vec Ideal S2x4x128x128 .f32)
    (inb : ∀ a, (![0, 0, 0, 0] : Fin 4 → ℕ) a + (![2, 4, 128, 128] : Fin 4 → ℕ) a ≤ S2x4x128x128.size a) (h : View.canon L = G) :
    v.readCov L (Rect.unit (s := S2x4x128x128) ![0, 0, 0, 0] ![2, 4, 128, 128] inb).toLoadRect = G := by
  rw [View.readCov_eq_canon', h]
  funext j
  refine congrArg G (funext fun a => Fin.ext ?_)
  match a with
  | ⟨0, _⟩ => exact (by show 0 + 1 * (j 0).val = (j 0).val; omega)
  | ⟨1, _⟩ => exact (by show 0 + 1 * (j 1).val = (j 1).val; omega)
  | ⟨2, _⟩ => exact (by show 0 + 1 * (j 2).val = (j 2).val; omega)
  | ⟨3, _⟩ => exact (by show 0 + 1 * (j 3).val = (j 3).val; omega)

/-- The state at the first point of a sequence. -/
theorem st_A (c : Dev nD) (t : Fin cfg0.N) (h0 : t.val % 4 = 0) (h1 : ¬t.val % 4 = 3) :
    (outsAt0 m c t.val t.isLt).2.2.2 = stAt m c t (k0_pay2 (F := Ideal) (iblk m c 8 t)) := by
  rw [outsAt0_A m c t h0 h1]
  dsimp only
  frame_open
  simp (disch := decide) only [↓ View.readCov_skip, ↓ View.readCov_cons_toLoadRect, ↓ View.readCov_fill]
  frame_out
  refine eight m c t (k0_pay2 (F := Ideal) (iblk m c 8 t)) _ _ _ _ _ _ _ _ _ ⟨?_, ?_, ?_, ?_, ?_, ?_, ?_, ?_, trivial⟩ (View.cover_of_tiledL _ ![1, 1, 128, 128] (by sl_kernel_rfl))
  · exact piece_st 1 3 (iblk m c 1 t) (iblk m c 2 t) (X0_3 m c t) (iblk m c 5 t) (iblk m c 6 t) (X0_7 m c t) (k0_pay2 (F := Ideal) (iblk m c 8 t))
  · exact piece_st 1 2 (iblk m c 1 t) (iblk m c 2 t) (X0_3 m c t) (iblk m c 5 t) (iblk m c 6 t) (X0_7 m c t) (k0_pay2 (F := Ideal) (iblk m c 8 t))
  · exact piece_st 1 1 (iblk m c 1 t) (iblk m c 2 t) (X0_3 m c t) (iblk m c 5 t) (iblk m c 6 t) (X0_7 m c t) (k0_pay2 (F := Ideal) (iblk m c 8 t))
  · exact piece_st 1 0 (iblk m c 1 t) (iblk m c 2 t) (X0_3 m c t) (iblk m c 5 t) (iblk m c 6 t) (X0_7 m c t) (k0_pay2 (F := Ideal) (iblk m c 8 t))
  · exact piece_st 0 3 (iblk m c 1 t) (iblk m c 2 t) (X0_3 m c t) (iblk m c 5 t) (iblk m c 6 t) (X0_7 m c t) (k0_pay2 (F := Ideal) (iblk m c 8 t))
  · exact piece_st 0 2 (iblk m c 1 t) (iblk m c 2 t) (X0_3 m c t) (iblk m c 5 t) (iblk m c 6 t) (X0_7 m c t) (k0_pay2 (F := Ideal) (iblk m c 8 t))
  · exact piece_st 0 1 (iblk m c 1 t) (iblk m c 2 t) (X0_3 m c t) (iblk m c 5 t) (iblk m c 6 t) (X0_7 m c t) (k0_pay2 (F := Ideal) (iblk m c 8 t))
  · exact piece_st 0 0 (iblk m c 1 t) (iblk m c 2 t) (X0_3 m c t) (iblk m c 5 t) (iblk m c 6 t) (X0_7 m c t) (k0_pay2 (F := Ideal) (iblk m c 8 t))

/-- The state at a middle point of a sequence. -/
theorem st_B (c : Dev nD) (t : Fin cfg0.N) (h0 : ¬t.val % 4 = 0) (h1 : ¬t.val % 4 = 3) :
    (outsAt0 m c t.val t.isLt).2.2.2 = stAt m c t (prev m c t) := by
  rw [outsAt0_B m c t h0 h1]
  dsimp only
  frame_open
  simp (disch := decide) only [↓ View.readCov_skip, ↓ View.readCov_cons_toLoadRect, ↓ View.readCov_fill]
  frame_out
  simp only [read_unread_whole]
  refine eight m c t (prev m c t) _ _ _ _ _ _ _ _ _ ⟨?_, ?_, ?_, ?_, ?_, ?_, ?_, ?_, trivial⟩ (View.cover_of_tiledL _ ![1, 1, 128, 128] (by sl_kernel_rfl))
  · exact piece_st 1 3 (iblk m c 1 t) (iblk m c 2 t) (X0_3 m c t) (iblk m c 5 t) (iblk m c 6 t) (X0_7 m c t) (prev m c t)
  · exact piece_st 1 2 (iblk m c 1 t) (iblk m c 2 t) (X0_3 m c t) (iblk m c 5 t) (iblk m c 6 t) (X0_7 m c t) (prev m c t)
  · exact piece_st 1 1 (iblk m c 1 t) (iblk m c 2 t) (X0_3 m c t) (iblk m c 5 t) (iblk m c 6 t) (X0_7 m c t) (prev m c t)
  · exact piece_st 1 0 (iblk m c 1 t) (iblk m c 2 t) (X0_3 m c t) (iblk m c 5 t) (iblk m c 6 t) (X0_7 m c t) (prev m c t)
  · exact piece_st 0 3 (iblk m c 1 t) (iblk m c 2 t) (X0_3 m c t) (iblk m c 5 t) (iblk m c 6 t) (X0_7 m c t) (prev m c t)
  · exact piece_st 0 2 (iblk m c 1 t) (iblk m c 2 t) (X0_3 m c t) (iblk m c 5 t) (iblk m c 6 t) (X0_7 m c t) (prev m c t)
  · exact piece_st 0 1 (iblk m c 1 t) (iblk m c 2 t) (X0_3 m c t) (iblk m c 5 t) (iblk m c 6 t) (X0_7 m c t) (prev m c t)
  · exact piece_st 0 0 (iblk m c 1 t) (iblk m c 2 t) (X0_3 m c t) (iblk m c 5 t) (iblk m c 6 t) (X0_7 m c t) (prev m c t)

/-- The state at the last point of a sequence. -/
theorem st_C (c : Dev nD) (t : Fin cfg0.N) (h0 : ¬t.val % 4 = 0) (h1 : t.val % 4 = 3) :
    (outsAt0 m c t.val t.isLt).2.2.2 = stAt m c t (prev m c t) := by
  rw [outsAt0_C m c t h0 h1]
  dsimp only
  frame_open
  simp (disch := decide) only [↓ View.readCov_skip, ↓ View.readCov_cons_toLoadRect, ↓ View.readCov_fill]
  frame_out
  simp only [read_unread_whole]
  refine eight m c t (prev m c t) _ _ _ _ _ _ _ _ _ ⟨?_, ?_, ?_, ?_, ?_, ?_, ?_, ?_, trivial⟩ (View.cover_of_tiledL _ ![1, 1, 128, 128] (by sl_kernel_rfl))
  · exact piece_st 1 3 (iblk m c 1 t) (iblk m c 2 t) (X0_3 m c t) (iblk m c 5 t) (iblk m c 6 t) (X0_7 m c t) (prev m c t)
  · exact piece_st 1 2 (iblk m c 1 t) (iblk m c 2 t) (X0_3 m c t) (iblk m c 5 t) (iblk m c 6 t) (X0_7 m c t) (prev m c t)
  · exact piece_st 1 1 (iblk m c 1 t) (iblk m c 2 t) (X0_3 m c t) (iblk m c 5 t) (iblk m c 6 t) (X0_7 m c t) (prev m c t)
  · exact piece_st 1 0 (iblk m c 1 t) (iblk m c 2 t) (X0_3 m c t) (iblk m c 5 t) (iblk m c 6 t) (X0_7 m c t) (prev m c t)
  · exact piece_st 0 3 (iblk m c 1 t) (iblk m c 2 t) (X0_3 m c t) (iblk m c 5 t) (iblk m c 6 t) (X0_7 m c t) (prev m c t)
  · exact piece_st 0 2 (iblk m c 1 t) (iblk m c 2 t) (X0_3 m c t) (iblk m c 5 t) (iblk m c 6 t) (X0_7 m c t) (prev m c t)
  · exact piece_st 0 1 (iblk m c 1 t) (iblk m c 2 t) (X0_3 m c t) (iblk m c 5 t) (iblk m c 6 t) (X0_7 m c t) (prev m c t)
  · exact piece_st 0 0 (iblk m c 1 t) (iblk m c 2 t) (X0_3 m c t) (iblk m c 5 t) (iblk m c 6 t) (X0_7 m c t) (prev m c t)

/-- The written state at the last point of a sequence. -/
theorem sf_C (c : Dev nD) (t : Fin cfg0.N) (h0 : ¬t.val % 4 = 0) (h1 : t.val % 4 = 3) :
    (outsAt0 m c t.val t.isLt).2.2.1 = k0_pay1 (F := Ideal) (stAt m c t (prev m c t)) := by
  rw [outsAt0_C m c t h0 h1]
  dsimp only
  frame_open
  simp (disch := decide) only [↓ View.readCov_skip, ↓ View.readCov_cons_toLoadRect, ↓ View.readCov_fill]
  frame_out
  simp only [read_unread_whole]
  refine congrArg (k0_pay1 (F := Ideal)) (readAll _ _ _ _ ?_)
  refine eight m c t (prev m c t) _ _ _ _ _ _ _ _ _ ⟨?_, ?_, ?_, ?_, ?_, ?_, ?_, ?_, trivial⟩ (View.cover_of_tiledL _ ![1, 1, 128, 128] (by sl_kernel_rfl))
  · exact piece_st 1 3 (iblk m c 1 t) (iblk m c 2 t) (X0_3 m c t) (iblk m c 5 t) (iblk m c 6 t) (X0_7 m c t) (prev m c t)
  · exact piece_st 1 2 (iblk m c 1 t) (iblk m c 2 t) (X0_3 m c t) (iblk m c 5 t) (iblk m c 6 t) (X0_7 m c t) (prev m c t)
  · exact piece_st 1 1 (iblk m c 1 t) (iblk m c 2 t) (X0_3 m c t) (iblk m c 5 t) (iblk m c 6 t) (X0_7 m c t) (prev m c t)
  · exact piece_st 1 0 (iblk m c 1 t) (iblk m c 2 t) (X0_3 m c t) (iblk m c 5 t) (iblk m c 6 t) (X0_7 m c t) (prev m c t)
  · exact piece_st 0 3 (iblk m c 1 t) (iblk m c 2 t) (X0_3 m c t) (iblk m c 5 t) (iblk m c 6 t) (X0_7 m c t) (prev m c t)
  · exact piece_st 0 2 (iblk m c 1 t) (iblk m c 2 t) (X0_3 m c t) (iblk m c 5 t) (iblk m c 6 t) (X0_7 m c t) (prev m c t)
  · exact piece_st 0 1 (iblk m c 1 t) (iblk m c 2 t) (X0_3 m c t) (iblk m c 5 t) (iblk m c 6 t) (X0_7 m c t) (prev m c t)
  · exact piece_st 0 0 (iblk m c 1 t) (iblk m c 2 t) (X0_3 m c t) (iblk m c 5 t) (iblk m c 6 t) (X0_7 m c t) (prev m c t)

end Cert.Kernel4Ideal.Hg
end
-- ==== Proof.HgRead.lean ====
/- Gated linear attention scan: which rows of the arrays a grid point's blocks hold, and the state after every grid point.
   Grid point `4 b + n` is chunk `n` of sequence `b`; the second direction takes the sequence's chunks, and the rows in a
   chunk, from the end. -/
module

public import proofs.«01_k».proof.Proof.HgCases

@[expose] public section

set_option maxRecDepth 16384

noncomputable section

namespace Cert.Kernel4Ideal.Hg

open Cert.Kernel4Ideal Cert.Kernel4Ideal.Gen Idealize.ShloMosaic Idealize.ShloMosaic.TcCoe Idealize.SL.Sem
open Idealize.ShloMosaic.Pipeline (Dat)
open Cert.Retention (tok col)
open Cert.Hgrn

variable (m : (ℓ : Loc nD τ sig) → Buf (Elt Ideal) ℓ)

/-- The keys. -/
abbrev ak (c : Dev nD) (d : Fin 2) (r : Fin 12288) (x : Fin 512) : EReal := (m ((c : Thread nD τ).loc main_arg1) : Vec Ideal S2x12288x512 .f32) (ix3 d r x)
/-- The logarithms of the gates. -/
abbrev al (c : Dev nD) (d : Fin 2) (r : Fin 12288) (x : Fin 512) : EReal := (m ((c : Thread nD τ).loc main_arg2) : Vec Ideal S2x12288x512 .f32) (ix3 d r x)
/-- The projection the values lie in. -/
abbrev av (c : Dev nD) (r : Fin 12288) (x : Fin 9856) : EReal := (m ((c : Thread nD τ).loc main_arg3) : Vec Ideal S12288x9856 .f32) (ix2 r x)

/-- Which block each window is on at a grid point. -/
theorem idx : ∀ t : Fin grid0.N, win0_1.index t 0 = 0 ∧ win0_1.index t 1 = t.val ∧ win0_1.index t 2 = 0
    ∧ win0_2.index t 0 = 0 ∧ win0_2.index t 1 = t.val ∧ win0_2.index t 2 = 0 ∧ win0_3.index t 0 = t.val ∧ win0_3.index t 1 = 17
    ∧ win0_5.index t 0 = 1 ∧ win0_5.index t 1 = 4 * (t.val / 4) + (3 - t.val % 4) ∧ win0_5.index t 2 = 0
    ∧ win0_6.index t 0 = 1 ∧ win0_6.index t 1 = 4 * (t.val / 4) + (3 - t.val % 4) ∧ win0_6.index t 2 = 0
    ∧ win0_7.index t 0 = 4 * (t.val / 4) + (3 - t.val % 4) ∧ win0_7.index t 1 = 17
    ∧ win0_8.index t 0 = t.val / 4 ∧ win0_8.index t 1 = 0 ∧ win0_8.index t 2 = 0 ∧ win0_8.index t 3 = 0 ∧ win0_8.index t 4 = 0 := by
  decide +kernel

/-- The forward key block at an index. -/
theorem k0_at (c : Dev nD) (t : Fin cfg0.N) (i : Fin 64) (x : Fin 512) (r : Fin 12288) (hr : r.val = 64 * t.val + i.val) :
    (iblk m c 1 t : Vec Ideal S1x64x512 .f32) (ix3 0 i x) = ak m c 0 r x := by
  blk_point [iblk, V_main_arg1, idx t]

/-- The forward gate block at an index. -/
theorem l0_at (c : Dev nD) (t : Fin cfg0.N) (i : Fin 64) (x : Fin 512) (r : Fin 12288) (hr : r.val = 64 * t.val + i.val) :
    (iblk m c 2 t : Vec Ideal S1x64x512 .f32) (ix3 0 i x) = al m c 0 r x := by
  blk_point [iblk, V_main_arg2, idx t]

/-- The backward key block at an index. -/
theorem k1_at (c : Dev nD) (t : Fin cfg0.N) (i : Fin 64) (x : Fin 512) (r : Fin 12288) (hr : r.val = 64 * (4 * (t.val / 4) + (3 - t.val % 4)) + i.val) :
    (iblk m c 5 t : Vec Ideal S1x64x512 .f32) (ix3 0 i x) = ak m c 1 r x := by
  blk_point [iblk, V_main_arg1, idx t]

/-- The backward gate block at an index. -/
theorem l1_at (c : Dev nD) (t : Fin cfg0.N) (i : Fin 64) (x : Fin 512) (r : Fin 12288) (hr : r.val = 64 * (4 * (t.val / 4) + (3 - t.val % 4)) + i.val) :
    (iblk m c 6 t : Vec Ideal S1x64x512 .f32) (ix3 0 i x) = al m c 1 r x := by
  blk_point [iblk, V_main_arg2, idx t]

/-- The forward value block at an index. -/
theorem v0_at (c : Dev nD) (t : Fin cfg0.N) (i : Fin 64) (x : Fin 512) (r : Fin 12288) (n : Fin 9856) (hr : r.val = 64 * t.val + i.val)
    (hn : n.val = 8704 + x.val) : (X0_3 m c t : Vec Ideal S64x512 .f32) (ix2 i x) = av m c r n := by
  unfold X0_3 Pipeline.Window.fill
  rw [dif_pos (moved0_3 t _)]
  blk_point [iblk, V_main_arg3, idx t]

/-- The backward value block at an index. -/
theorem v1_at (c : Dev nD) (t : Fin cfg0.N) (i : Fin 64) (x : Fin 512) (r : Fin 12288) (n : Fin 9856)
    (hr : r.val = 64 * (4 * (t.val / 4) + (3 - t.val % 4)) + i.val)
    (hn : n.val = 8704 + x.val) : (X0_7 m c t : Vec Ideal S64x512 .f32) (ix2 i x) = av m c r n := by
  unfold X0_7 Pipeline.Window.fill
  rw [dif_pos (moved0_7 t _)]
  blk_point [iblk, V_main_arg3, idx t]

/-- The starting state is zero. -/
theorem s0_at (c : Dev nD) (t : Fin cfg0.N) (d : Fin 2) (h : Fin 4) (y x : Fin 128) :
    k0_pay2 (F := Ideal) (iblk m c 8 t) (ix4 d h y x) = 0 := by
  pointwise [k0_pay2]
  rw [iblk, View.read_apply]
  entry_read
  pointwise
  rfl

/-- The state block written out, at an index. -/
theorem sf_at (S : Vec Ideal S2x4x128x128 .f32) (b : Fin 1) (d : Fin 2) (h : Fin 4) (y x : Fin 128) :
    k0_pay1 (F := Ideal) S (ix5 b d h y x) = S (ix4 d h y x) := by
  pointwise [k0_pay1]

/-- A sum over a block's rows is the sum over their places. -/
theorem sum_ps : ∀ (d : Fin 2) (f : Fin 64 → EReal), ∑ j : Fin 64, f (ps d j) = ∑ p : Fin 64, f p
  | 0, _ => rfl
  | 1, f => Equiv.sum_comp Fin.revPerm f

/-- The sequence a grid point works on. -/
def bt (t : Fin cfg0.N) : Fin 16 := ⟨t.val / 4, by have := t.isLt; have : cfg0.N = 64 := N_0; omega⟩

/-- The row of the first direction's token. -/
theorem tok0_val (t : Fin cfg0.N) (j : Fin 64) : (tok 0 (bt t) (t.val % 4) j).val = 64 * t.val + j.val := by
  have hN : cfg0.N = 64 := N_0
  have ht := t.isLt
  show (t.val / 4 * 256 + (64 * (t.val % 4) + j.val)) % 12288 = _
  omega
/-- The row of the second direction's token. -/
theorem tok1_val (t : Fin cfg0.N) (j : Fin 64) : (tok 1 (bt t) (t.val % 4) j.rev).val = 64 * (4 * (t.val / 4) + (3 - t.val % 4)) + j.val := by
  have hN : cfg0.N = 64 := N_0
  have ht := t.isLt
  show (t.val / 4 * 256 + (255 - (64 * (t.val % 4) + j.rev.val))) % 12288 = _
  rw [Fin.val_rev]
  omega

/-- The two columns agree. -/
theorem hc_eq (h : Fin 4) (x : Fin 128) : hc h x = col h x := Fin.ext (by show 128 * h.val + x.val = h.val * 128 + x.val; omega)

/-- The key of a row of a block. -/
theorem k_at (c : Dev nD) (t : Fin cfg0.N) : ∀ (d : Fin 2) (i : Fin 64) (h : Fin 4) (x : Fin 128),
    (sel d (iblk m c 1 t) (iblk m c 5 t) : Vec Ideal S1x64x512 .f32) (ix3 0 i (hc h x)) = ak m c d (tok d (bt t) (t.val % 4) (ps d i)) (col h x)
  | 0, i, h, x => (k0_at m c t i _ _ (tok0_val t i)).trans (by rw [hc_eq]; rfl)
  | 1, i, h, x => (k1_at m c t i _ _ (tok1_val t i)).trans (by rw [hc_eq]; rfl)
/-- The gate's logarithm in a row of a block. -/
theorem l_at (c : Dev nD) (t : Fin cfg0.N) : ∀ (d : Fin 2) (i : Fin 64) (h : Fin 4) (x : Fin 128),
    (sel d (iblk m c 2 t) (iblk m c 6 t) : Vec Ideal S1x64x512 .f32) (ix3 0 i (hc h x)) = al m c d (tok d (bt t) (t.val % 4) (ps d i)) (col h x)
  | 0, i, h, x => (l0_at m c t i _ _ (tok0_val t i)).trans (by rw [hc_eq]; rfl)
  | 1, i, h, x => (l1_at m c t i _ _ (tok1_val t i)).trans (by rw [hc_eq]; rfl)
/-- The value of a row of a block. -/
theorem v_at (c : Dev nD) (t : Fin cfg0.N) : ∀ (d : Fin 2) (i : Fin 64) (h : Fin 4) (x : Fin 128),
    (sel d (X0_3 m c t) (X0_7 m c t) : Vec Ideal S64x512 .f32) (ix2 i (hc h x)) = av m c (tok d (bt t) (t.val % 4) (ps d i)) (vcol h x)
  | 0, i, h, x => v0_at m c t i _ _ (vcol h x) (tok0_val t i) (by rw [hc_eq]; rfl)
  | 1, i, h, x => v1_at m c t i _ _ (vcol h x) (tok1_val t i) (by rw [hc_eq]; rfl)

/-- The state before chunk `n` of the sequence, direction, head. -/
abbrev st (c : Dev nD) (d : Fin 2) (b : Fin 16) (h : Fin 4) (n : ℕ) (y x : Fin 128) : EReal := state (ak m c) (al m c) (av m c) d b h n y x

variable {m} {c : Dev nD} (hl : ∀ (d : Fin 2) (r : Fin 12288) (x : Fin 512), al m c d r x < ⊤)
include hl

/-- The gates added up along a point's chunk. -/
theorem g_at (t : Fin cfg0.N) (d : Fin 2) (h : Fin 4) (i : Fin 64) (x : Fin 128) :
    cumOf d (ldK (sel d (iblk m c 2 t) (iblk m c 6 t)) h) (ix2 i x) = cum (al m c) d (bt t) h (t.val % 4) (ps d i) x := by
  rw [cumOf_at d _ i x fun j => by rw [ldK_at, l_at]; exact hl _ _ _]
  simp only [ldK_at, l_at]
  exact sum_ps d fun p => if p.val ≤ (ps d i).val then al m c d (tok d (bt t) (t.val % 4) p) (col h x) else 0

/-- A point takes the state before its chunk to the state before the next. -/
theorem st_step (t : Fin cfg0.N) (S : Vec Ideal S2x4x128x128 .f32) (d : Fin 2) (h : Fin 4) (y x : Fin 128)
    (hS : S (ix4 d h y x) = st m c d (bt t) h (t.val % 4) y x) :
    stAt m c t S (ix4 d h y x) = st m c d (bt t) h (t.val % 4 + 1) y x := by
  show kSt _ _ _ _ _ _ S d h y x = _
  unfold kSt
  rw [hS]
  simp only [k_at, v_at, g_at hl, ps_end]
  rw [sum_ps d fun p => av m c (tok d (bt t) (t.val % 4) p) (vcol h y) * (ak m c d (tok d (bt t) (t.val % 4) p) (col h x)
    * Ideal.exp (cum (al m c) d (bt t) h (t.val % 4) 63 x - cum (al m c) d (bt t) h (t.val % 4) p x))]
  rfl

omit hl in
/-- The state before a point, as the body reads it. -/
def pre (m : (ℓ : Loc nD τ sig) → Buf (Elt Ideal) ℓ) (c : Dev nD) (t : Fin cfg0.N) : Vec Ideal S2x4x128x128 .f32 :=
  if t.val % 4 = 0 then k0_pay2 (F := Ideal) (iblk m c 8 t) else prev m c t

omit hl in
/-- The state after a point, over the state before it. -/
theorem scr_eq (t : Fin cfg0.N) : scr m c t.val t.isLt = stAt m c t (pre m c t) := by
  unfold pre
  by_cases h0 : t.val % 4 = 0
  · rw [if_pos h0]; exact st_A m c t h0 (by omega)
  · rw [if_neg h0]
    by_cases h1 : t.val % 4 = 3
    · exact st_C m c t h0 h1
    · exact st_B m c t h0 h1

/-- The state before every point. -/
theorem pre_at : ∀ (n : ℕ) (hn : n < cfg0.N) (d : Fin 2) (h : Fin 4) (y x : Fin 128),
    pre m c ⟨n, hn⟩ (ix4 d h y x) = st m c d (bt ⟨n, hn⟩) h (n % 4) y x := by
  intro n
  induction n with
  | zero => intro hn d h y x; exact s0_at m c ⟨0, hn⟩ d h y x
  | succ n ih =>
    intro hn d h y x
    unfold pre
    by_cases h0 : (n + 1) % 4 = 0
    · rw [if_pos h0]
      refine (s0_at m c ⟨n + 1, hn⟩ d h y x).trans ?_
      rw [h0]
      rfl
    · rw [if_neg h0]
      have hn' : n < cfg0.N := Nat.lt_of_succ_lt hn
      refine (congrFun (scr_eq (m := m) (c := c) ⟨n, hn'⟩) _).trans ?_
      refine (st_step hl ⟨n, hn'⟩ _ d h y x (ih hn' d h y x)).trans ?_
      have e1 : bt ⟨n, hn'⟩ = bt ⟨n + 1, hn⟩ := Fin.ext (by show n / 4 = (n + 1) / 4; omega)
      have e2 : n % 4 + 1 = (n + 1) % 4 := by omega
      show st m c d (bt ⟨n, hn'⟩) h (n % 4 + 1) y x = _
      rw [e1, e2]

/-- The state written at the last point of a sequence. -/
theorem sfin_at (t : Fin cfg0.N) (h1 : t.val % 4 = 3) (b : Fin 1) (d : Fin 2) (h : Fin 4) (y x : Fin 128) :
    (outsAt0 m c t.val t.isLt).2.2.1 (ix5 b d h y x) = st m c d (bt t) h 4 y x := by
  have h0 : ¬ t.val % 4 = 0 := by omega
  rw [sf_C m c t h0 h1]
  refine (sf_at _ b d h y x).trans ?_
  have hp : pre m c t = prev m c t := by unfold pre; rw [if_neg h0]
  refine (st_step hl t _ d h y x (hp ▸ pre_at hl t.val t.isLt d h y x)).trans ?_
  rw [h1]

omit hl in
/-- The final states as an array. -/
def G11 (m : (ℓ : Loc nD τ sig) → Buf (Elt Ideal) ℓ) (c : Dev nD) : Vec Ideal S16x2x4x128x128 .f32 := fun y => st m c (y 1) (y 0) (y 2) 4 (y 3) (y 4)

omit hl in
/-- Which block the state's window is on at a grid point. -/
theorem idxo : ∀ t : Fin grid0.N, win0_11.index t 0 = t.val / 4 ∧ win0_11.index t 1 = 0 ∧ win0_11.index t 2 = 0 ∧ win0_11.index t 3 = 0
    ∧ win0_11.index t 4 = 0 := by
  decide +kernel

omit hl in
/-- Where a point's block lies in the array of states. -/
theorem emb11 (t : Fin cfg0.N) (b : Fin 1) (d : Fin 2) (h : Fin 4) (y x : Fin 128) :
    (((View.whole main_v2_2).slice (win0_11.rect t)).emb (ix5 b d h y x) : S16x2x4x128x128.Idx) = ix5 (bt t) d h y x := by
  have hb : (bt t).val = t.val / 4 := rfl
  blk_ext [idxo t]

/-- The array of states after the run. -/
theorem arr11 : (dats m 0 c).arrAt 11 cfg0.N = G11 m c := by
  refine (dats m 0 c).arrAt_eq_of_covers 11 _ (by decide +kernel) (fun t hf y => ?_)
  have h3 : t.val % 4 = 3 := (flush0_11 t).mp hf
  blk_simp
  rw [after0_11]
  idx_vars y
  exact (sfin_at hl t h3 y0 y1 y2 y3 y4).trans (congrArg (G11 m c) (emb11 t y0 y1 y2 y3 y4)).symm

end Cert.Kernel4Ideal.Hg
end
-- ==== Proof.HgRef.lean ====
/- Gated linear attention scan: the reference's arrays before its loop, read at an index. -/
module

public import proofs.«01_k».proof.Proof.HgSpec
public import proofs.«01_k».proof.Proof.RetRef
public import proofs.«01_k».proof.Proof.Gen.Reference4Ideal.Step
public import Idealize.ShloMosaic.Lib.Pipeline.ValueKit
public import Idealize.ShloMosaic.Lib.Pipeline.ReadBack

@[expose] public section

set_option maxRecDepth 16384

noncomputable section

namespace Cert.Reference4Ideal.Hg

open Cert.Reference4Ideal Cert.Reference4Ideal.Gen Idealize.ShloMosaic Idealize.ShloMosaic.TcCoe Idealize.SL.Sem
open Cert.Retention (tok col)
open Cert.Hgrn Cert.Reference4Ideal.Step
open Cert.ReferenceIdeal.Ret (place row tok_place place_zero place_one ix4_congr)

variable (a1 a2 : (⟨S2x12288x512, .f32⟩ : BufTy).Contents (Elt Ideal)) (a3 : (⟨S12288x9856, .f32⟩ : BufTy).Contents (Elt Ideal))

/-- The first direction's sequences and the second direction's, read from the end, cut into chunks. -/
def cut (X Y : Vec Ideal S16x256x4x128 .f32) : Vec Ideal S2x16x4x64x4x128 .f32 :=
  shapeCast _ (concatenate S2x16x256x4x128 0 [⟨S1x16x256x4x128, broadcastInDim S1x16x256x4x128 ![1, 2, 3, 4] bcast_S16x256x4x128_S1x16x256x4x128_1_2_3_4 X⟩, ⟨S1x16x256x4x128, broadcastInDim S1x16x256x4x128 ![1, 2, 3, 4] bcast_S16x256x4x128_S1x16x256x4x128_1_2_3_4 (Host.reverse [1] Y)⟩] concatenates_S1x16x256x4x128_S1x16x256x4x128_S2x16x256x4x128_d0) shapeCasts_S2x16x256x4x128_S2x16x4x64x4x128

/-- The chunks with the chunk before the sequence and the heads before the places. -/
def rows (X Y : Vec Ideal S16x256x4x128 .f32) : Vec Ideal S2x4x16x4x64x128 .f32 :=
  transpose S2x4x16x4x64x128 [0, 1, 2, 4, 3, 5] (transpose S2x4x16x64x4x128 [0, 2, 1, 3, 4, 5] (cut X Y) transposes_S2x16x4x64x4x128_S2x4x16x64x4x128_0_2_1_3_4_5) transposes_S2x4x16x64x4x128_S2x4x16x4x64x128_0_1_2_4_3_5

/-- The chunks with the chunk first. -/
def front (X : Vec Ideal S2x4x16x4x64x128 .f32) : Vec Ideal S4x2x16x4x64x128 .f32 :=
  transpose S4x2x16x4x64x128 [1, 0, 2, 3, 4, 5] X transposes_S2x4x16x4x64x128_S4x2x16x4x64x128_1_0_2_3_4_5

/-- The cut sequences at an index. -/
theorem cut_at (X Y : Vec Ideal S16x256x4x128 .f32) (n : Fin 4) (d : Fin 2) (b : Fin 16) (h : Fin 4) (p : Fin 64) (x : Fin 128) :
    cut X Y (ix6 d b n p h x) = if d = 0 then X (ix4 b (place d n p) h x) else Y (ix4 b (place d n p) h x) := by
  pointwise [cut]
  by_cases e : d.val < 1
  · obtain rfl : d = 0 := Fin.ext (by omega)
    rw [dif_pos e, place_zero, if_pos rfl]
  · obtain rfl : d = 1 := Fin.ext (by omega)
    refine Eq.trans ?_ (if_neg (by decide : ¬ (1 : Fin 2) = 0)).symm
    rw [dif_neg e, ← place_one n p (by omega)]
    exact ix4_congr Y (if_neg (by decide)) (if_pos (by decide)) (if_neg (by decide)) (if_neg (by decide))

/-- The chunks brought before the sequences, at an index. -/
theorem chunk_second (X : Vec Ideal S2x16x4x64x4x128 .f32) (d : Fin 2) (n : Fin 4) (b : Fin 16) (p : Fin 64) (h : Fin 4) (x : Fin 128) :
    (transpose S2x4x16x64x4x128 [0, 2, 1, 3, 4, 5] X transposes_S2x16x4x64x4x128_S2x4x16x64x4x128_0_2_1_3_4_5) (ix6 d n b p h x) = X (ix6 d b n p h x) := by
  pointwise

/-- The heads brought before the places, at an index. -/
theorem head_third (X : Vec Ideal S2x4x16x64x4x128 .f32) (d : Fin 2) (n : Fin 4) (b : Fin 16) (h : Fin 4) (p : Fin 64) (x : Fin 128) :
    (transpose S2x4x16x4x64x128 [0, 1, 2, 4, 3, 5] X transposes_S2x4x16x64x4x128_S2x4x16x4x64x128_0_1_2_4_3_5) (ix6 d n b h p x) = X (ix6 d n b p h x) := by
  pointwise

/-- The chunks brought to the front, at an index. -/
theorem front_at (X : Vec Ideal S2x4x16x4x64x128 .f32) (n : Fin 4) (d : Fin 2) (b : Fin 16) (h : Fin 4) (p : Fin 64) (x : Fin 128) :
    front X (ix6 n d b h p x) = X (ix6 d n b h p x) := by
  pointwise [front]

/-- The chunks at an index. -/
theorem rows_at (X Y : Vec Ideal S16x256x4x128 .f32) (n : Fin 4) (d : Fin 2) (b : Fin 16) (h : Fin 4) (p : Fin 64) (x : Fin 128) :
    rows X Y (ix6 d n b h p x) = if d = 0 then X (ix4 b (place d n p) h x) else Y (ix4 b (place d n p) h x) := by
  rw [rows, head_third, chunk_second, cut_at]

/-- The keys at an index. -/
theorem keys_at (n : Fin 4) (d : Fin 2) (b : Fin 16) (h : Fin 4) (p : Fin 64) (x : Fin 128) :
    (A_main_v34 a1 a2 a3 : Vec Ideal S2x4x16x4x64x128 .f32) (ix6 d n b h p x) = a1 (ix3 d (tok d b n.val p) (col h x)) := by
  refine (rows_at (A_main_v6 a1 a2 a3) (A_main_v10 a1 a2 a3) n d b h p x).trans ?_
  rw [tok_place]
  by_cases e : d = 0
  · subst e
    rw [if_pos rfl]
    pointwise [A_main_v6, A_main_v5, A_main_v4, A_main_v3]
    rfl
  · obtain rfl : d = 1 := by omega
    rw [if_neg e]
    pointwise [A_main_v10, A_main_v9, A_main_v8, A_main_v7]
    rfl

/-- The gates' logarithms at an index. -/
theorem gates_at (n : Fin 4) (d : Fin 2) (b : Fin 16) (h : Fin 4) (p : Fin 64) (x : Fin 128) :
    (A_main_v40 a1 a2 a3 : Vec Ideal S2x4x16x4x64x128 .f32) (ix6 d n b h p x) = a2 (ix3 d (tok d b n.val p) (col h x)) := by
  refine (rows_at (A_main_v22 a1 a2 a3) (A_main_v26 a1 a2 a3) n d b h p x).trans ?_
  rw [tok_place]
  by_cases e : d = 0
  · subst e
    rw [if_pos rfl]
    pointwise [A_main_v22, A_main_v21, A_main_v20, A_main_v19]
    rfl
  · obtain rfl : d = 1 := by omega
    rw [if_neg e]
    pointwise [A_main_v26, A_main_v25, A_main_v24, A_main_v23]
    rfl

/-- The reference's key chunks at an index. -/
theorem k_at (n : Fin 4) (d : Fin 2) (b : Fin 16) (h : Fin 4) (p : Fin 64) (x : Fin 128) :
    (A_main_v42 a1 a2 a3 : Vec Ideal S4x2x16x4x64x128 .f32) (ix6 n d b h p x) = a1 (ix3 d (tok d b n.val p) (col h x)) :=
  (front_at (A_main_v34 a1 a2 a3) n d b h p x).trans (keys_at a1 a2 a3 n d b h p x)

/-- The reference's value chunks at an index. -/
theorem v_at (n : Fin 4) (d : Fin 2) (b : Fin 16) (h : Fin 4) (p : Fin 64) (x : Fin 128) :
    (A_main_v43 a1 a2 a3 : Vec Ideal S4x2x16x4x64x128 .f32) (ix6 n d b h p x) = a3 (ix2 (tok d b n.val p) (vcol h x)) := by
  refine (front_at (A_main_v37 a1 a2 a3) n d b h p x).trans ?_
  refine (rows_at (A_main_v2 a1 a2 a3) (A_main_v2 a1 a2 a3) n d b h p x).trans ?_
  rw [tok_place, ite_self]
  pointwise [A_main_v2, A_main_v1, A_main_v0]
  rfl

/-- The window a position's running sum reads: 64 places of the position axis. -/
abbrev Win : Shape := ⟨6, ![1, 1, 1, 1, 64, 1]⟩

/-- The windows' indices are the 64 places. -/
def winEquiv : Fin 64 ≃ Win.Idx where
  toFun k := ix6 0 0 0 0 k 0
  invFun w := w 4
  left_inv _ := rfl
  right_inv w := by
    funext a
    match a with
    | ⟨0, _⟩ => exact Fin.ext (by have := (w 0).isLt; show 0 = (w 0).val; change (w 0).val < 1 at this; omega)
    | ⟨1, _⟩ => exact Fin.ext (by have := (w 1).isLt; show 0 = (w 1).val; change (w 1).val < 1 at this; omega)
    | ⟨2, _⟩ => exact Fin.ext (by have := (w 2).isLt; show 0 = (w 2).val; change (w 2).val < 1 at this; omega)
    | ⟨3, _⟩ => exact Fin.ext (by have := (w 3).isLt; show 0 = (w 3).val; change (w 3).val < 1 at this; omega)
    | ⟨4, _⟩ => rfl
    | ⟨5, _⟩ => exact Fin.ext (by have := (w 5).isLt; show 0 = (w 5).val; change (w 5).val < 1 at this; omega)

/-- What a window's place reads, counted back from the position: an entry of the array, or the starting value before it. -/
def term (X : Vec Ideal S2x4x16x4x64x128 .f32) (v : EReal) (j : S2x4x16x4x64x128.Idx) (w : Win.Idx) : EReal :=
  if hin : ∀ a : Fin 6, (![0, 0, 0, 0, 63, 0] : Fin 6 → ℕ) a ≤ (j a).val * (![1, 1, 1, 1, 1, 1] : Fin 6 → ℕ) a + (w a).val
      ∧ (j a).val * (![1, 1, 1, 1, 1, 1] : Fin 6 → ℕ) a + (w a).val - (![0, 0, 0, 0, 63, 0] : Fin 6 → ℕ) a < S2x4x16x4x64x128.size a
    then X (fun a => ⟨(j a).val * (![1, 1, 1, 1, 1, 1] : Fin 6 → ℕ) a + (w a).val - (![0, 0, 0, 0, 63, 0] : Fin 6 → ℕ) a, (hin a).2⟩) else v

/-- A window's place at an index. -/
theorem term_at (X : Vec Ideal S2x4x16x4x64x128 .f32) (d : Fin 2) (n : Fin 4) (b : Fin 16) (h : Fin 4) (p : Fin 64) (x : Fin 128) (k : Fin 64) :
    term X 0 (ix6 d n b h p x) (winEquiv k) = if g : 63 ≤ p.val + k.val then X (ix6 d n b h ⟨p.val + k.val - 63, by omega⟩ x) else 0 := by
  unfold term
  by_cases g : 63 ≤ p.val + k.val
  · rw [dif_pos g, dif_pos]
    · refine congrArg X (funext fun a => Fin.ext ?_)
      match a with
      | ⟨0, _⟩ => show d.val * 1 + 0 - 0 = d.val; omega
      | ⟨1, _⟩ => show n.val * 1 + 0 - 0 = n.val; omega
      | ⟨2, _⟩ => show b.val * 1 + 0 - 0 = b.val; omega
      | ⟨3, _⟩ => show h.val * 1 + 0 - 0 = h.val; omega
      | ⟨4, _⟩ => show p.val * 1 + k.val - 63 = p.val + k.val - 63; omega
      | ⟨5, _⟩ => show x.val * 1 + 0 - 0 = x.val; omega
    · intro a
      match a with
      | ⟨0, _⟩ => show 0 ≤ d.val * 1 + 0 ∧ d.val * 1 + 0 - 0 < 2; omega
      | ⟨1, _⟩ => show 0 ≤ n.val * 1 + 0 ∧ n.val * 1 + 0 - 0 < 4; omega
      | ⟨2, _⟩ => show 0 ≤ b.val * 1 + 0 ∧ b.val * 1 + 0 - 0 < 16; omega
      | ⟨3, _⟩ => show 0 ≤ h.val * 1 + 0 ∧ h.val * 1 + 0 - 0 < 4; omega
      | ⟨4, _⟩ => show 63 ≤ p.val * 1 + k.val ∧ p.val * 1 + k.val - 63 < 64; omega
      | ⟨5, _⟩ => show 0 ≤ x.val * 1 + 0 ∧ x.val * 1 + 0 - 0 < 128; omega
  · rw [dif_neg g, dif_neg]
    intro hin
    have h4 : 63 ≤ p.val * 1 + k.val := (hin 4).1
    omega

/-- The running sums along the places at an index: the entries up to the place. -/
theorem run_at (X : Vec Ideal S2x4x16x4x64x128 .f32) (d : Fin 2) (n : Fin 4) (b : Fin 16) (h : Fin 4) (p : Fin 64) (x : Fin 128) :
    (Host.reduceWindowAdd (F := Ideal) (φ := .f32) ![1, 1, 1, 1, 64, 1] ![1, 1, 1, 1, 1, 1] ![0, 0, 0, 0, 63, 0] ![0, 0, 0, 0, 0, 0] (X : FVec Ideal S2x4x16x4x64x128 .f32)
      (K_main_call3_call0_v0 (F := Ideal)) reduceWindows_S2x4x16x4x64x128_S2x4x16x4x64x128_w1s1p0_0_w1s1p0_0_w1s1p0_0_w1s1p0_0_w64s1p63_0_w1s1p0_0 h_S_) (ix6 d n b h p x)
      = ∑ j : Fin 64, if j.val ≤ p.val then (X (ix6 d n b h j x) : EReal) else 0 := by
  have hv : (K_main_call3_call0_v0 (F := Ideal)) (Shape.Idx.first h_S_) = (0 : EReal) := by
    show Ideal.ofBits .f32 0#32 = 0
    simp [Ideal.ofBits, Ideal.ieee]
  rw [← window_sum (fun j => X (ix6 d n b h j x)) p]
  refine Eq.trans (b := (List.finRange Win.numel).foldl (fun r k => r + term X ((K_main_call3_call0_v0 (F := Ideal)) (Shape.Idx.first h_S_)) (ix6 d n b h p x) (Win.rowMajor.symm k))
    ((K_main_call3_call0_v0 (F := Ideal)) (Shape.Idx.first h_S_))) ?_ ?_
  · unfold Host.reduceWindowAdd term
    show Ideal.hostReduceWindowAdd _ _ _ _ _ _ _ _ = _
    unfold Ideal.hostReduceWindowAdd Host.reduceWindow
    dsimp only
    refine congrArg (fun f => List.foldl f _ _) (funext fun r => funext fun k => congrArg (fun z : EReal => r + z) ?_)
    congr
  rw [hv, foldl_sum, zero_add, ← Fin.sum_univ_def, Equiv.sum_comp Win.rowMajor.symm (fun w => term X 0 (ix6 d n b h p x) w),
    ← Equiv.sum_comp winEquiv (fun w => term X 0 (ix6 d n b h p x) w)]
  exact Finset.sum_congr rfl fun k _ => term_at X d n b h p x k

/-- The reference's running sums of the gates' logarithms at an index. -/
theorem g_at (n : Fin 4) (d : Fin 2) (b : Fin 16) (h : Fin 4) (p : Fin 64) (x : Fin 128) :
    (A_main_v44 a1 a2 a3 : Vec Ideal S4x2x16x4x64x128 .f32) (ix6 n d b h p x) = cum (fun d r o => a2 (ix3 d r o)) d b h n.val p x := by
  refine (front_at (A_main_v41 a1 a2 a3) n d b h p x).trans ?_
  refine (run_at (A_main_v40 a1 a2 a3) d n b h p x).trans ?_
  simp only [gates_at]
  rfl

/-- The state before the loop is zero. -/
theorem s_at (d : Fin 2) (b : Fin 16) (h : Fin 4) (x y : Fin 128) : (K_main_v31 : Vec Ideal S2x16x4x128x128 .f32) (ix5 d b h x y) = 0 := by
  pointwise [K_main_v31, K_main_cst]

end Cert.Reference4Ideal.Hg
end
-- ==== Proof.HgLoop.lean ====
/- Gated linear attention scan: the reference's loop over the chunks, and its result, read at an index. -/
module

public import proofs.«01_k».proof.Proof.HgRef
public import proofs.«01_k».proof.Proof.Gen.Reference4Ideal.Run
public import Idealize.ShloMosaic.Lib.WordCmp

@[expose] public section

set_option maxRecDepth 16384

noncomputable section

namespace Cert.Reference4Ideal.Hg

open Cert.Reference4Ideal Cert.Reference4Ideal.Gen Idealize.ShloMosaic Idealize.ShloMosaic.TcCoe Idealize.SL.Sem
open Idealize.ShloMosaic.StableHlo Idealize.ShloMosaic.Tactic
open Cert.Retention (tok col)
open Cert.Hgrn Cert.Reference4Ideal.Step Cert.Reference4Ideal.Value

/-- Where the loop reads: the counter's chunk. -/
abbrev starts (cnt : (⟨S_, .i32⟩ : BufTy).Contents (Elt Ideal)) : Fin 6 → Int := fun k =>
  (((![cnt, constantI S_ 32 0#32, constantI S_ 32 0#32, constantI S_ 32 0#32, constantI S_ 32 0#32, constantI S_ 32 0#32] : Fin 6 → (⟨S_, .i32⟩ : BufTy).Contents (Elt Ideal))) k (Shape.Idx.first h_S_)).toInt

/-- The counter's chunk as numbers. -/
theorem starts_eq (n : Fin 4) (a : Fin 6) : starts (fun _ => BitVec.ofNat 32 n.val) a = ((![n.val, 0, 0, 0, 0, 0] : Fin 6 → ℕ) a : Int) := by
  have h : (BitVec.ofNat 32 n.val).toInt = (n.val : Int) := by revert n; decide
  fin_cases a
  · exact h
  all_goals rfl

/-- A chunk lies within the array of chunks. -/
theorem chunk_fits (n : Fin 4) : S4x2x16x4x64x128.Slices ![n.val, 0, 0, 0, 0, 0] S1x2x16x4x64x128 := by
  revert n; decide

/-- The counter's chunk of an array of chunks. -/
def readChunk (X : Vec Ideal S4x2x16x4x64x128 .f32) (cnt : (⟨S_, .i32⟩ : BufTy).Contents (Elt Ideal)) : FVec Ideal S2x16x4x64x128 .f32 :=
  shapeCast S2x16x4x64x128 (Host.dynamicSlice S1x2x16x4x64x128 X (starts cnt) sliceFits_S4x2x16x4x64x128_S1x2x16x4x64x128)
    shapeCasts_S1x2x16x4x64x128_S2x16x4x64x128

/-- The chunk read at the counter. -/
theorem read_at (X : Vec Ideal S4x2x16x4x64x128 .f32) (n : Fin 4) (d : Fin 2) (b : Fin 16) (h : Fin 4) (p : Fin 64) (x : Fin 128) :
    readChunk X (fun _ => BitVec.ofNat 32 n.val) (ix5 d b h p x) = X (ix6 n d b h p x) := by
  unfold readChunk
  rw [WordCmp.dynamicSlice_eq_extract _ X _ _ ![n.val, 0, 0, 0, 0, 0] (chunk_fits n) (starts_eq n)]
  pointwise

/-- One trip's state. -/
def nextState (s : FVec Ideal S2x16x4x128x128 .f32) (k v g : FVec Ideal S2x16x4x64x128 .f32) : FVec Ideal S2x16x4x128x128 .f32 :=
  addf (mulf s (broadcastInDim S2x16x4x128x128 ![0, 1, 2, 3, 4] bcast_S2x16x4x128x1_S2x16x4x128x128_0_1_2_3_4 (Host.exp (F := Ideal) (broadcastInDim S2x16x4x128x1 ![0, 1, 2, 3] bcast_S2x16x4x128_S2x16x4x128x1_0_1_2_3 (shapeCast S2x16x4x128 (extractStridedSlice S2x16x4x1x128 ![0, 0, 0, 63, 0] g slices_S2x16x4x64x128_S2x16x4x1x128_0_0_0_63_0) shapeCasts_S2x16x4x1x128_S2x16x4x128)))))
    (Host.dotGeneral dot_S2x16x4x64x128_S2x16x4x64x128_S2x16x4x128x128_3_3_4_4_012_012 none
      (mulf k (Host.exp (F := Ideal) (subf (broadcastInDim S2x16x4x64x128 ![0, 1, 2, 3, 4] bcast_S2x16x4x1x128_S2x16x4x64x128_0_1_2_3_4 (extractStridedSlice S2x16x4x1x128 ![0, 0, 0, 63, 0] g slices_S2x16x4x64x128_S2x16x4x1x128_0_0_0_63_0)) g))) v)

/-- One trip's state at an index. -/
theorem nextState_at (s k v g) (d : Fin 2) (b : Fin 16) (h : Fin 4) (x y : Fin 128) : nextState s k v g (ix5 d b h x y)
    = s (ix5 d b h x y) * Ideal.exp (g (ix5 d b h 63 x))
      + ∑ j : Fin 64, (k (ix5 d b h j x) * Ideal.exp (g (ix5 d b h 63 x) - g (ix5 d b h j x))) * v (ix5 d b h j y) := by
  pointwise [nextState]
  done

variable (m : (ℓ : Loc nD τ sig) → Buf (Elt Ideal) ℓ) (c : Dev nD)

/-- The keys. -/
abbrev rk : (⟨S2x12288x512, .f32⟩ : BufTy).Contents (Elt Ideal) := m ((c.tc : Thread nD τ).loc main_arg1)
/-- The logarithms of the gates. -/
abbrev rl : (⟨S2x12288x512, .f32⟩ : BufTy).Contents (Elt Ideal) := m ((c.tc : Thread nD τ).loc main_arg2)
/-- The projection that holds the values. -/
abbrev rv : (⟨S12288x9856, .f32⟩ : BufTy).Contents (Elt Ideal) := m ((c.tc : Thread nD τ).loc main_arg3)

/-- The state before a chunk, of the reference's arguments, value first and key second. -/
abbrev rst (d : Fin 2) (b : Fin 16) (h : Fin 4) (n : ℕ) (y x : Fin 128) : EReal :=
  state (fun d r o => rk m c (ix3 d r o)) (fun d r o => rl m c (ix3 d r o)) (fun r o => rv m c (ix2 r o)) d b h n y x

/-- What the carried buffers hold before trip `n`. -/
structure At (n : ℕ) (V0 : Valuation τ sig (Elt Ideal)) : Prop where
  k : V0 (Proc.devRef .tc main_v45_0) = A_main_v42 (rk m c) (rl m c) (rv m c)
  v : V0 (Proc.devRef .tc main_v45_1) = A_main_v43 (rk m c) (rl m c) (rv m c)
  g : V0 (Proc.devRef .tc main_v45_2) = A_main_v44 (rk m c) (rl m c) (rv m c)
  cnt : V0 (Proc.devRef .tc main_v45_3) = fun _ => BitVec.ofNat 32 n
  st : ∀ (d : Fin 2) (b : Fin 16) (h : Fin 4) (x y : Fin 128), (V0 (Proc.devRef .tc main_v45_4) : Vec Ideal S2x16x4x128x128 .f32) (ix5 d b h x y) = rst m c d b h n y x

set_option maxRecDepth 65536 in
set_option maxHeartbeats 600000 in
/-- The keys before the first trip. -/
theorem k_zero : entryContents preI m c (Proc.devRef .tc main_v45_0) = A_main_v42 (rk m c) (rl m c) (rv m c) := by
  simp only [entryContents, afterL_cons, afterL_nil]
  after_reads_simp
  rfl

set_option maxRecDepth 65536 in
set_option maxHeartbeats 600000 in
/-- The values before the first trip. -/
theorem v_zero : entryContents preI m c (Proc.devRef .tc main_v45_1) = A_main_v43 (rk m c) (rl m c) (rv m c) := by
  simp only [entryContents, afterL_cons, afterL_nil]
  after_reads_simp
  rfl

set_option maxRecDepth 65536 in
set_option maxHeartbeats 600000 in
/-- The gates of the first direction, written before the chunks are cut. -/
theorem gates_one : upto hostOps0_6 (after hostOps0_5 (after hostOps0_4 (after hostOps0_3 (after hostOps0_2 (after hostOps0_1 (after hostOps0 (launchContents m c))))))) 2 (Proc.devRef .tc main_v28)
    = A_main_v28 (rk m c) (rl m c) (rv m c) := by
  after_reads_simp
  unfold A_main_v28 A_main_v22 A_main_v21 A_main_v20 A_main_v19
  rfl

set_option maxRecDepth 65536 in
set_option maxHeartbeats 600000 in
/-- The gates of the second direction, written before the chunks are cut. -/
theorem gates_two : upto hostOps0_6 (after hostOps0_5 (after hostOps0_4 (after hostOps0_3 (after hostOps0_2 (after hostOps0_1 (after hostOps0 (launchContents m c))))))) 2 (Proc.devRef .tc main_v29)
    = A_main_v29 (rk m c) (rl m c) (rv m c) := by
  after_reads_simp
  simp only [TRef.toBuf, TRef.ofBuf, cast_eq]
  unfold A_main_v29 A_main_v27 A_main_v26 A_main_v25 A_main_v24 A_main_v23
  rfl

/-- The running sum reads the gates' buffer as it is. -/
theorem gates_in (h1 h2 h3) (X : (⟨S2x4x16x4x64x128, .f32⟩ : BufTy).Contents (Elt Ideal)) : (TRef.of main_v40 h1 h2 h3 : TRef sig (⟨S2x4x16x4x64x128, .f32⟩ : BufTy)).ofBuf X = X := rfl

/-- The running sum's buffer holds it as it is. -/
theorem sums_out (h1 h2 h3) (X : (⟨S2x4x16x4x64x128, .f32⟩ : BufTy).Contents (Elt Ideal)) : (TRef.of main_v41 h1 h2 h3 : TRef sig (⟨S2x4x16x4x64x128, .f32⟩ : BufTy)).toBuf X = X := rfl

set_option maxRecDepth 65536 in
set_option maxHeartbeats 600000 in
/-- The running sums before the first trip. What a running sum is plays no part. -/
theorem g_zero : entryContents preI m c (Proc.devRef .tc main_v45_2) = A_main_v44 (rk m c) (rl m c) (rv m c) := by
  simp only [entryContents, afterL_cons, afterL_nil]
  after_reads_simp
  unfold A_main_v44 A_main_v41
  generalize @Host.reduceWindowAdd = f
  rw [gates_one, gates_two]
  simp only [TRef.ofBuf_toBuf]
  refine congrArg front ?_
  refine (sums_out _ _ _ _).trans ?_
  rw [gates_in]
  exact congrArg₂ (fun (X : FVec Ideal S2x4x16x4x64x128 .f32) (v : FVec Ideal S_ .f32) => f (F := Ideal) (φ := .f32) ![1, 1, 1, 1, 64, 1] ![1, 1, 1, 1, 1, 1] ![0, 0, 0, 0, 63, 0] ![0, 0, 0, 0, 0, 0] X v reduceWindows_S2x4x16x4x64x128_S2x4x16x4x64x128_w1s1p0_0_w1s1p0_0_w1s1p0_0_w1s1p0_0_w64s1p63_0_w1s1p0_0 h_S_) rfl rfl

set_option maxRecDepth 65536 in
set_option maxHeartbeats 600000 in
/-- The counter before the first trip. -/
theorem cnt_zero : entryContents preI m c (Proc.devRef .tc main_v45_3) = fun _ => BitVec.ofNat 32 0 := by
  simp only [entryContents, afterL_cons, afterL_nil]
  after_reads_simp
  rfl

set_option maxRecDepth 65536 in
set_option maxHeartbeats 600000 in
/-- The state before the first trip. -/
theorem st_zero : entryContents preI m c (Proc.devRef .tc main_v45_4) = K_main_v31 (F := Ideal) := by
  simp only [entryContents, afterL_cons, afterL_nil]
  after_reads_simp
  rfl

/-- Before the first trip. -/
theorem at_zero : At m c 0 (entryContents preI m c) where
  k := k_zero m c
  v := v_zero m c
  g := g_zero m c
  cnt := cnt_zero m c
  st d b h x y := by
    rw [st_zero m c]
    exact s_at d b h x y

variable {m c}

/-- The trip's keys. -/
theorem At.k_chunk {n : Fin 4} {V0 : Valuation τ sig (Elt Ideal)} (H : At m c n.val V0) (d : Fin 2) (b : Fin 16) (h : Fin 4) (p : Fin 64) (x : Fin 128) :
    readChunk (V0 (Proc.devRef .tc main_v45_0)) (V0 (Proc.devRef .tc main_v45_3)) (ix5 d b h p x) = rk m c (ix3 d (tok d b n.val p) (col h x)) := by
  rw [H.k, H.cnt]
  exact (read_at _ n d b h p x).trans (k_at _ _ _ n d b h p x)

/-- The trip's values. -/
theorem At.v_chunk {n : Fin 4} {V0 : Valuation τ sig (Elt Ideal)} (H : At m c n.val V0) (d : Fin 2) (b : Fin 16) (h : Fin 4) (p : Fin 64) (x : Fin 128) :
    readChunk (V0 (Proc.devRef .tc main_v45_1)) (V0 (Proc.devRef .tc main_v45_3)) (ix5 d b h p x) = rv m c (ix2 (tok d b n.val p) (vcol h x)) := by
  rw [H.v, H.cnt]
  exact (read_at _ n d b h p x).trans (v_at _ _ _ n d b h p x)

/-- The trip's running sums. -/
theorem At.g_chunk {n : Fin 4} {V0 : Valuation τ sig (Elt Ideal)} (H : At m c n.val V0) (d : Fin 2) (b : Fin 16) (h : Fin 4) (p : Fin 64) (x : Fin 128) :
    readChunk (V0 (Proc.devRef .tc main_v45_2)) (V0 (Proc.devRef .tc main_v45_3)) (ix5 d b h p x) = cum (fun d r o => rl m c (ix3 d r o)) d b h n.val p x := by
  rw [H.g, H.cnt]
  exact (read_at _ n d b h p x).trans (g_at _ _ _ n d b h p x)

/-- The state a trip leaves. -/
theorem At.st_next {n : Fin 4} {V0 : Valuation τ sig (Elt Ideal)} (H : At m c n.val V0) (d : Fin 2) (b : Fin 16) (h : Fin 4) (x y : Fin 128) :
    (Value.step_main_v45_4 V0 : Vec Ideal S2x16x4x128x128 .f32) (ix5 d b h x y) = rst m c d b h (n.val + 1) y x := by
  have e : Value.step_main_v45_4 V0 = nextState (V0 (Proc.devRef .tc main_v45_4)) (readChunk (V0 (Proc.devRef .tc main_v45_0)) (V0 (Proc.devRef .tc main_v45_3)))
      (readChunk (V0 (Proc.devRef .tc main_v45_1)) (V0 (Proc.devRef .tc main_v45_3))) (readChunk (V0 (Proc.devRef .tc main_v45_2)) (V0 (Proc.devRef .tc main_v45_3))) := rfl
  rw [e]
  refine (nextState_at (V0 (Proc.devRef .tc main_v45_4)) (readChunk (V0 (Proc.devRef .tc main_v45_0)) (V0 (Proc.devRef .tc main_v45_3)))
      (readChunk (V0 (Proc.devRef .tc main_v45_1)) (V0 (Proc.devRef .tc main_v45_3))) (readChunk (V0 (Proc.devRef .tc main_v45_2)) (V0 (Proc.devRef .tc main_v45_3))) d b h x y).trans ?_
  rw [H.g_chunk d b h 63 x]
  refine congrArg₂ (fun z w : EReal => z * Ideal.exp (cum (fun d r o => rl m c (ix3 d r o)) d b h n.val 63 x) + w) (H.st d b h x y) ?_
  refine Finset.sum_congr rfl fun j _ => ?_
  rw [H.k_chunk d b h j x, H.v_chunk d b h j y, H.g_chunk d b h j x]
  exact mul_comm _ _

/-- One trip carries the invariant on. -/
theorem At.step {n : Fin 4} {V0 : Valuation τ sig (Elt Ideal)} (H : At m c n.val V0) : At m c (n.val + 1) (STEP V0) where
  k := (STEP_main_v45_0 V0).trans H.k
  v := (STEP_main_v45_1 V0).trans H.v
  g := (STEP_main_v45_2 V0).trans H.g
  cnt := by
    refine (STEP_main_v45_3 V0).trans ?_
    unfold Value.step_main_v45_3
    rw [H.cnt]
    funext z
    show BitVec.ofNat 32 n.val + 1#32 = BitVec.ofNat 32 (n.val + 1)
    exact (BitVec.ofNat_add n.val 1).symm
  st := fun d b h x y => by
    rw [STEP_main_v45_4]
    exact H.st_next d b h x y

variable (m c)

/-- The loop's end. -/
theorem at_four : At m c 4 (STEP^[4] (entryContents preI m c)) := by
  rw [Function.iterate_succ_apply', Function.iterate_succ_apply', Function.iterate_succ_apply', Function.iterate_succ_apply', Function.iterate_zero_apply]
  exact At.step (n := 3) (At.step (n := 2) (At.step (n := 1) (At.step (n := 0) (at_zero m c))))

/-- The sequences brought first, at an index. -/
theorem seq_first (X : Vec Ideal S2x16x4x128x128 .f32) (b : Fin 16) (d : Fin 2) (h : Fin 4) (x y : Fin 128) :
    (transpose S16x2x4x128x128 [1, 0, 2, 3, 4] X transposes_S2x16x4x128x128_S16x2x4x128x128_1_0_2_3_4) (ix5 b d h x y) = X (ix5 d b h x y) := by
  pointwise

/-- Key and value exchanged, at an index. -/
theorem swap_last (X : Vec Ideal S16x2x4x128x128 .f32) (b : Fin 16) (d : Fin 2) (h : Fin 4) (y x : Fin 128) :
    (transpose S16x2x4x128x128 [0, 1, 2, 4, 3] X transposes_S16x2x4x128x128_S16x2x4x128x128_0_1_2_4_3) (ix5 b d h y x) = X (ix5 b d h x y) := by
  pointwise

/-- The reference's states after the last chunk, value first and key second. -/
theorem state_at (b : Fin 16) (d : Fin 2) (h : Fin 4) (y x : Fin 128) :
    (out_main_v47 (STEP^[4] (entryContents preI m c)) : Vec Ideal S16x2x4x128x128 .f32) (ix5 b d h y x) = rst m c d b h 4 y x := by
  rw [← (at_four m c).st d b h x y]
  unfold out_main_v47
  exact (swap_last _ b d h y x).trans (seq_first _ b d h x y)

end Cert.Reference4Ideal.Hg
end
-- ==== Proof.HgClaim.lean ====
/- Gated linear attention scan: the claim that kernel and reference leave the same states where no gate's logarithm is plus
   infinity. -/
module

public import proofs.«01_k».proof.Defs
public import proofs.«01_k».proof.Proof.HgRead
public import proofs.«01_k».proof.Proof.HgLoop
public import proofs.«01_k».proof.Proof.Gen.Pre_below_infinity

@[expose] public section

set_option maxRecDepth 16384

noncomputable section

open Idealize.ShloMosaic Idealize.ShloMosaic.TcCoe Idealize.SL.Sem

namespace Cert.Pre_below_infinity

variable [Facts]

/-- Where the precondition holds every logarithm lies below plus infinity. -/
theorem below (q : FVec Ideal S12288x512 .f32) (k l : FVec Ideal S2x12288x512 .f32) (v : FVec Ideal S12288x9856 .f32)
    (h : fn q k l v = fun _ => 1#1) (i : S2x12288x512.Idx) : (l i : EReal) < ⊤ := by
  have e : BitVec.ofBool (decide ((l i : EReal) < Ideal.ofBits .f32 2139095040#32)) = 1#1 := congrFun h i
  have ht : Ideal.ofBits .f32 2139095040#32 = (⊤ : EReal) := by simp [Ideal.ofBits, Ideal.ieee]
  rw [ht] at e
  by_contra hc
  rw [decide_eq_false hc] at e
  exact absurd e (by decide)

end Cert.Pre_below_infinity

namespace Cert.Kernel4Ideal.Hg

/-- The kernel and the reference leave the same states. -/
theorem algebraic : Cert.algebraic_Kernel4Ideal_Reference4Ideal_pre_below_infinity (hKernel4Ideal := Cert.Kernel4Ideal.Gen.facts)
    (hReference4Ideal := Cert.Reference4Ideal.Gen.facts) (hPre_below_infinity := Cert.Pre_below_infinity.Gen.facts) := by
  intro m g m' g' hpre hag
  refine ⟨fun c => G11 m c,
    (θ_run _ _ _).mono (fun r h c => ⟨?_, (h c).2.2.2⟩) (Cert.Kernel4Ideal.Value.run_blocks m g),
    (θ_run _ _ _).mono (fun r h c => ⟨?_, (h c).2⟩) (Cert.Reference4Ideal.Value.run m' g')⟩
  · rw [(h c).2.2.1]
    exact arr11 fun d r x => Cert.Pre_below_infinity.below _ _ _ _ (hpre c) (ix3 d r x)
  · rw [(h c).1]
    funext i
    idx_vars i
    refine (Cert.Reference4Ideal.Hg.state_at m' c _ _ _ _ _).trans ?_
    unfold Cert.Reference4Ideal.Hg.rst Cert.Reference4Ideal.Hg.rk Cert.Reference4Ideal.Hg.rl Cert.Reference4Ideal.Hg.rv
    rw [(hag c).2.1, (hag c).2.2.1, (hag c).2.2.2]
    rfl

end Cert.Kernel4Ideal.Hg
end
-- ==== Proof.lean ====
/- The claims about the four calls, put together. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Step
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Step
public import proofs.«01_k».proof.Proof.Gen.Reference4Ideal.Run
public import proofs.«01_k».proof.Proof.Gen.On_prompt_rows
public import proofs.«01_k».proof.Proof.Gen.Pre_below_infinity
public import proofs.«01_k».proof.Proof.InProjClaim
public import proofs.«01_k».proof.Proof.MergeClaim
public import proofs.«01_k».proof.Proof.RetClaim
public import proofs.«01_k».proof.Proof.HgClaim
public import Idealize.ShloMosaic.Lib.Quiescent

@[expose] public section

noncomputable section

namespace Cert.Proof

open Idealize.ShloMosaic Idealize.SL.Sem

/-- The retention reference leaves its arguments as they were and has no semaphore. -/
theorem frame_reference : Cert.quiescent_ReferenceIdeal (hReferenceIdeal := Cert.ReferenceIdeal.Gen.facts) :=
  fun m ρ _ => (θ_run _ _ _).mono (fun r h => ⟨fun c => (h c).2.2.2, sem_eq_zero_of_no_sems rfl r.2⟩) (Cert.ReferenceIdeal.Value.run m ρ)

/-- The projection reference leaves its arguments as they were and has no semaphore. -/
theorem frame_reference2 : Cert.quiescent_Reference2Ideal (hReference2Ideal := Cert.Reference2Ideal.Gen.facts) :=
  fun m ρ _ => (θ_run _ _ _).mono (fun r h => ⟨fun c => (h c).2, sem_eq_zero_of_no_sems rfl r.2⟩) (Cert.Reference2Ideal.Value.run m ρ)

/-- The merge reference leaves its arguments as they were and has no semaphore. -/
theorem frame_reference3 : Cert.quiescent_Reference3Ideal (hReference3Ideal := Cert.Reference3Ideal.Gen.facts) :=
  fun m ρ _ => (θ_run _ _ _).mono (fun r h => ⟨fun c => (h c).2, sem_eq_zero_of_no_sems rfl r.2⟩) (Cert.Reference3Ideal.Value.run m ρ)

/-- The gated linear attention reference leaves its arguments as they were and has no semaphore. -/
theorem frame_reference4 : Cert.quiescent_Reference4Ideal (hReference4Ideal := Cert.Reference4Ideal.Gen.facts) :=
  fun m ρ _ => (θ_run _ _ _).mono (fun r h => ⟨fun c => (h c).2, sem_eq_zero_of_no_sems rfl r.2⟩) (Cert.Reference4Ideal.Value.run m ρ)

/-- All the claims. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts,
  Cert.Pre_below_infinity.Gen.facts, Cert.On_prompt_rows.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, fun m ρ _ => Cert.Kernel4Ideal.Gen.frame m ρ,
  frame_reference4, fun m ρ _ => frame_reference4 m ρ trivial,
  trivial, Cert.KernelIdeal.Ret.algebraic, trivial, Cert.Kernel2Ideal.InProj.algebraic, trivial, Cert.Kernel3Ideal.Merge.algebraic,
  trivial, Cert.Kernel4Ideal.Hg.algebraic⟩

end Cert.Proof

end
